-- ==== Defs.lean ====
def Pre_Kernel [hPre_is_0123_Kernel : Cert.Pre_is_0123_Kernel.Facts] (m : (ℓ : Loc Cert.Kernel.nD Cert.Kernel.τ Cert.Kernel.sig) → Buf (Elt Bits) ℓ) : Prop :=
  ∀ c : Dev Cert.Kernel.nD,
    (Cert.Pre_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_0132_Kernel [hPre_is_0132_Kernel : Cert.Pre_is_0132_Kernel.Facts] (m : (ℓ : Loc Cert.Kernel.nD Cert.Kernel.τ Cert.Kernel.sig) → Buf (Elt Bits) ℓ) : Prop :=
  ∀ c : Dev Cert.Kernel.nD,
    (Cert.Pre_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_0213_Kernel [hPre_is_0213_Kernel : Cert.Pre_is_0213_Kernel.Facts] (m : (ℓ : Loc Cert.Kernel.nD Cert.Kernel.τ Cert.Kernel.sig) → Buf (Elt Bits) ℓ) : Prop :=
  ∀ c : Dev Cert.Kernel.nD,
    (Cert.Pre_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_0231_Kernel [hPre_is_0231_Kernel : Cert.Pre_is_0231_Kernel.Facts] (m : (ℓ : Loc Cert.Kernel.nD Cert.Kernel.τ Cert.Kernel.sig) → Buf (Elt Bits) ℓ) : Prop :=
  ∀ c : Dev Cert.Kernel.nD,
    (Cert.Pre_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_0312_Kernel [hPre_is_0312_Kernel : Cert.Pre_is_0312_Kernel.Facts] (m : (ℓ : Loc Cert.Kernel.nD Cert.Kernel.τ Cert.Kernel.sig) → Buf (Elt Bits) ℓ) : Prop :=
  ∀ c : Dev Cert.Kernel.nD,
    (Cert.Pre_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_0321_Kernel [hPre_is_0321_Kernel : Cert.Pre_is_0321_Kernel.Facts] (m : (ℓ : Loc Cert.Kernel.nD Cert.Kernel.τ Cert.Kernel.sig) → Buf (Elt Bits) ℓ) : Prop :=
  ∀ c : Dev Cert.Kernel.nD,
    (Cert.Pre_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_1023_Kernel [hPre_is_1023_Kernel : Cert.Pre_is_1023_Kernel.Facts] (m : (ℓ : Loc Cert.Kernel.nD Cert.Kernel.τ Cert.Kernel.sig) → Buf (Elt Bits) ℓ) : Prop :=
  ∀ c : Dev Cert.Kernel.nD,
    (Cert.Pre_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_1032_Kernel [hPre_is_1032_Kernel : Cert.Pre_is_1032_Kernel.Facts] (m : (ℓ : Loc Cert.Kernel.nD Cert.Kernel.τ Cert.Kernel.sig) → Buf (Elt Bits) ℓ) : Prop :=
  ∀ c : Dev Cert.Kernel.nD,
    (Cert.Pre_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_1203_Kernel [hPre_is_1203_Kernel : Cert.Pre_is_1203_Kernel.Facts] (m : (ℓ : Loc Cert.Kernel.nD Cert.Kernel.τ Cert.Kernel.sig) → Buf (Elt Bits) ℓ) : Prop :=
  ∀ c : Dev Cert.Kernel.nD,
    (Cert.Pre_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_1230_Kernel [hPre_is_1230_Kernel : Cert.Pre_is_1230_Kernel.Facts] (m : (ℓ : Loc Cert.Kernel.nD Cert.Kernel.τ Cert.Kernel.sig) → Buf (Elt Bits) ℓ) : Prop :=
  ∀ c : Dev Cert.Kernel.nD,
    (Cert.Pre_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_1302_Kernel [hPre_is_1302_Kernel : Cert.Pre_is_1302_Kernel.Facts] (m : (ℓ : Loc Cert.Kernel.nD Cert.Kernel.τ Cert.Kernel.sig) → Buf (Elt Bits) ℓ) : Prop :=
  ∀ c : Dev Cert.Kernel.nD,
    (Cert.Pre_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_1320_Kernel [hPre_is_1320_Kernel : Cert.Pre_is_1320_Kernel.Facts] (m : (ℓ : Loc Cert.Kernel.nD Cert.Kernel.τ Cert.Kernel.sig) → Buf (Elt Bits) ℓ) : Prop :=
  ∀ c : Dev Cert.Kernel.nD,
    (Cert.Pre_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_2013_Kernel [hPre_is_2013_Kernel : Cert.Pre_is_2013_Kernel.Facts] (m : (ℓ : Loc Cert.Kernel.nD Cert.Kernel.τ Cert.Kernel.sig) → Buf (Elt Bits) ℓ) : Prop :=
  ∀ c : Dev Cert.Kernel.nD,
    (Cert.Pre_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_2031_Kernel [hPre_is_2031_Kernel : Cert.Pre_is_2031_Kernel.Facts] (m : (ℓ : Loc Cert.Kernel.nD Cert.Kernel.τ Cert.Kernel.sig) → Buf (Elt Bits) ℓ) : Prop :=
  ∀ c : Dev Cert.Kernel.nD,
    (Cert.Pre_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_2103_Kernel [hPre_is_2103_Kernel : Cert.Pre_is_2103_Kernel.Facts] (m : (ℓ : Loc Cert.Kernel.nD Cert.Kernel.τ Cert.Kernel.sig) → Buf (Elt Bits) ℓ) : Prop :=
  ∀ c : Dev Cert.Kernel.nD,
    (Cert.Pre_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_2130_Kernel [hPre_is_2130_Kernel : Cert.Pre_is_2130_Kernel.Facts] (m : (ℓ : Loc Cert.Kernel.nD Cert.Kernel.τ Cert.Kernel.sig) → Buf (Elt Bits) ℓ) : Prop :=
  ∀ c : Dev Cert.Kernel.nD,
    (Cert.Pre_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_2301_Kernel [hPre_is_2301_Kernel : Cert.Pre_is_2301_Kernel.Facts] (m : (ℓ : Loc Cert.Kernel.nD Cert.Kernel.τ Cert.Kernel.sig) → Buf (Elt Bits) ℓ) : Prop :=
  ∀ c : Dev Cert.Kernel.nD,
    (Cert.Pre_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_2310_Kernel [hPre_is_2310_Kernel : Cert.Pre_is_2310_Kernel.Facts] (m : (ℓ : Loc Cert.Kernel.nD Cert.Kernel.τ Cert.Kernel.sig) → Buf (Elt Bits) ℓ) : Prop :=
  ∀ c : Dev Cert.Kernel.nD,
    (Cert.Pre_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_3012_Kernel [hPre_is_3012_Kernel : Cert.Pre_is_3012_Kernel.Facts] (m : (ℓ : Loc Cert.Kernel.nD Cert.Kernel.τ Cert.Kernel.sig) → Buf (Elt Bits) ℓ) : Prop :=
  ∀ c : Dev Cert.Kernel.nD,
    (Cert.Pre_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_3021_Kernel [hPre_is_3021_Kernel : Cert.Pre_is_3021_Kernel.Facts] (m : (ℓ : Loc Cert.Kernel.nD Cert.Kernel.τ Cert.Kernel.sig) → Buf (Elt Bits) ℓ) : Prop :=
  ∀ c : Dev Cert.Kernel.nD,
    (Cert.Pre_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_3102_Kernel [hPre_is_3102_Kernel : Cert.Pre_is_3102_Kernel.Facts] (m : (ℓ : Loc Cert.Kernel.nD Cert.Kernel.τ Cert.Kernel.sig) → Buf (Elt Bits) ℓ) : Prop :=
  ∀ c : Dev Cert.Kernel.nD,
    (Cert.Pre_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_3120_Kernel [hPre_is_3120_Kernel : Cert.Pre_is_3120_Kernel.Facts] (m : (ℓ : Loc Cert.Kernel.nD Cert.Kernel.τ Cert.Kernel.sig) → Buf (Elt Bits) ℓ) : Prop :=
  ∀ c : Dev Cert.Kernel.nD,
    (Cert.Pre_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_3201_Kernel [hPre_is_3201_Kernel : Cert.Pre_is_3201_Kernel.Facts] (m : (ℓ : Loc Cert.Kernel.nD Cert.Kernel.τ Cert.Kernel.sig) → Buf (Elt Bits) ℓ) : Prop :=
  ∀ c : Dev Cert.Kernel.nD,
    (Cert.Pre_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_is_3210_Kernel [hPre_is_3210_Kernel : Cert.Pre_is_3210_Kernel.Facts] (m : (ℓ : Loc Cert.Kernel.nD Cert.Kernel.τ Cert.Kernel.sig) → Buf (Elt Bits) ℓ) : Prop :=
  ∀ c : Dev Cert.Kernel.nD,
    (Cert.Pre_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_is_0123_Kernel : Cert.Pre_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_0132_Kernel [hPre_is_0132_Kernel : Cert.Pre_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_0213_Kernel [hPre_is_0213_Kernel : Cert.Pre_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_0231_Kernel [hPre_is_0231_Kernel : Cert.Pre_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_0312_Kernel [hPre_is_0312_Kernel : Cert.Pre_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_0321_Kernel [hPre_is_0321_Kernel : Cert.Pre_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_1023_Kernel [hPre_is_1023_Kernel : Cert.Pre_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_1032_Kernel [hPre_is_1032_Kernel : Cert.Pre_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_1203_Kernel [hPre_is_1203_Kernel : Cert.Pre_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_1230_Kernel [hPre_is_1230_Kernel : Cert.Pre_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_1302_Kernel [hPre_is_1302_Kernel : Cert.Pre_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_1320_Kernel [hPre_is_1320_Kernel : Cert.Pre_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_2013_Kernel [hPre_is_2013_Kernel : Cert.Pre_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_2031_Kernel [hPre_is_2031_Kernel : Cert.Pre_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_2103_Kernel [hPre_is_2103_Kernel : Cert.Pre_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_2130_Kernel [hPre_is_2130_Kernel : Cert.Pre_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_2301_Kernel [hPre_is_2301_Kernel : Cert.Pre_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_2310_Kernel [hPre_is_2310_Kernel : Cert.Pre_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_3012_Kernel [hPre_is_3012_Kernel : Cert.Pre_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_3021_Kernel [hPre_is_3021_Kernel : Cert.Pre_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_3102_Kernel [hPre_is_3102_Kernel : Cert.Pre_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_3120_Kernel [hPre_is_3120_Kernel : Cert.Pre_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_3201_Kernel [hPre_is_3201_Kernel : Cert.Pre_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_is_3210_Kernel [hPre_is_3210_Kernel : Cert.Pre_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_0123_ReferenceIdeal [hPre_is_0123_ReferenceIdeal : Cert.Pre_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_0132_ReferenceIdeal [hPre_is_0132_ReferenceIdeal : Cert.Pre_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_0213_ReferenceIdeal [hPre_is_0213_ReferenceIdeal : Cert.Pre_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_0231_ReferenceIdeal [hPre_is_0231_ReferenceIdeal : Cert.Pre_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_0312_ReferenceIdeal [hPre_is_0312_ReferenceIdeal : Cert.Pre_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_0321_ReferenceIdeal [hPre_is_0321_ReferenceIdeal : Cert.Pre_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_1023_ReferenceIdeal [hPre_is_1023_ReferenceIdeal : Cert.Pre_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_1032_ReferenceIdeal [hPre_is_1032_ReferenceIdeal : Cert.Pre_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_1203_ReferenceIdeal [hPre_is_1203_ReferenceIdeal : Cert.Pre_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_1230_ReferenceIdeal [hPre_is_1230_ReferenceIdeal : Cert.Pre_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_1302_ReferenceIdeal [hPre_is_1302_ReferenceIdeal : Cert.Pre_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_1320_ReferenceIdeal [hPre_is_1320_ReferenceIdeal : Cert.Pre_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_2013_ReferenceIdeal [hPre_is_2013_ReferenceIdeal : Cert.Pre_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_2031_ReferenceIdeal [hPre_is_2031_ReferenceIdeal : Cert.Pre_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_2103_ReferenceIdeal [hPre_is_2103_ReferenceIdeal : Cert.Pre_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_2130_ReferenceIdeal [hPre_is_2130_ReferenceIdeal : Cert.Pre_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_2301_ReferenceIdeal [hPre_is_2301_ReferenceIdeal : Cert.Pre_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_2310_ReferenceIdeal [hPre_is_2310_ReferenceIdeal : Cert.Pre_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_3012_ReferenceIdeal [hPre_is_3012_ReferenceIdeal : Cert.Pre_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_3021_ReferenceIdeal [hPre_is_3021_ReferenceIdeal : Cert.Pre_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_3102_ReferenceIdeal [hPre_is_3102_ReferenceIdeal : Cert.Pre_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_3120_ReferenceIdeal [hPre_is_3120_ReferenceIdeal : Cert.Pre_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_3201_ReferenceIdeal [hPre_is_3201_ReferenceIdeal : Cert.Pre_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_is_3210_ReferenceIdeal [hPre_is_3210_ReferenceIdeal : Cert.Pre_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_is_0123_ReferenceIdeal : Cert.Pre_is_0123_ReferenceIdeal.Facts] (m : (ℓ : Loc Cert.Reference.nD Cert.Reference.τ Cert.Reference.sig) → Buf (Elt Bits) ℓ) : Prop :=
  ∀ c : Dev Cert.Reference.nD,
    (Cert.Pre_is_0123_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_0132_ReferenceIdeal [hPre_is_0132_ReferenceIdeal : Cert.Pre_is_0132_ReferenceIdeal.Facts] (m : (ℓ : Loc Cert.Reference.nD Cert.Reference.τ Cert.Reference.sig) → Buf (Elt Bits) ℓ) : Prop :=
  ∀ c : Dev Cert.Reference.nD,
    (Cert.Pre_is_0132_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_0213_ReferenceIdeal [hPre_is_0213_ReferenceIdeal : Cert.Pre_is_0213_ReferenceIdeal.Facts] (m : (ℓ : Loc Cert.Reference.nD Cert.Reference.τ Cert.Reference.sig) → Buf (Elt Bits) ℓ) : Prop :=
  ∀ c : Dev Cert.Reference.nD,
    (Cert.Pre_is_0213_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_0231_ReferenceIdeal [hPre_is_0231_ReferenceIdeal : Cert.Pre_is_0231_ReferenceIdeal.Facts] (m : (ℓ : Loc Cert.Reference.nD Cert.Reference.τ Cert.Reference.sig) → Buf (Elt Bits) ℓ) : Prop :=
  ∀ c : Dev Cert.Reference.nD,
    (Cert.Pre_is_0231_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_0312_ReferenceIdeal [hPre_is_0312_ReferenceIdeal : Cert.Pre_is_0312_ReferenceIdeal.Facts] (m : (ℓ : Loc Cert.Reference.nD Cert.Reference.τ Cert.Reference.sig) → Buf (Elt Bits) ℓ) : Prop :=
  ∀ c : Dev Cert.Reference.nD,
    (Cert.Pre_is_0312_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_0321_ReferenceIdeal [hPre_is_0321_ReferenceIdeal : Cert.Pre_is_0321_ReferenceIdeal.Facts] (m : (ℓ : Loc Cert.Reference.nD Cert.Reference.τ Cert.Reference.sig) → Buf (Elt Bits) ℓ) : Prop :=
  ∀ c : Dev Cert.Reference.nD,
    (Cert.Pre_is_0321_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_1023_ReferenceIdeal [hPre_is_1023_ReferenceIdeal : Cert.Pre_is_1023_ReferenceIdeal.Facts] (m : (ℓ : Loc Cert.Reference.nD Cert.Reference.τ Cert.Reference.sig) → Buf (Elt Bits) ℓ) : Prop :=
  ∀ c : Dev Cert.Reference.nD,
    (Cert.Pre_is_1023_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_1032_ReferenceIdeal [hPre_is_1032_ReferenceIdeal : Cert.Pre_is_1032_ReferenceIdeal.Facts] (m : (ℓ : Loc Cert.Reference.nD Cert.Reference.τ Cert.Reference.sig) → Buf (Elt Bits) ℓ) : Prop :=
  ∀ c : Dev Cert.Reference.nD,
    (Cert.Pre_is_1032_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_1203_ReferenceIdeal [hPre_is_1203_ReferenceIdeal : Cert.Pre_is_1203_ReferenceIdeal.Facts] (m : (ℓ : Loc Cert.Reference.nD Cert.Reference.τ Cert.Reference.sig) → Buf (Elt Bits) ℓ) : Prop :=
  ∀ c : Dev Cert.Reference.nD,
    (Cert.Pre_is_1203_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_1230_ReferenceIdeal [hPre_is_1230_ReferenceIdeal : Cert.Pre_is_1230_ReferenceIdeal.Facts] (m : (ℓ : Loc Cert.Reference.nD Cert.Reference.τ Cert.Reference.sig) → Buf (Elt Bits) ℓ) : Prop :=
  ∀ c : Dev Cert.Reference.nD,
    (Cert.Pre_is_1230_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_1302_ReferenceIdeal [hPre_is_1302_ReferenceIdeal : Cert.Pre_is_1302_ReferenceIdeal.Facts] (m : (ℓ : Loc Cert.Reference.nD Cert.Reference.τ Cert.Reference.sig) → Buf (Elt Bits) ℓ) : Prop :=
  ∀ c : Dev Cert.Reference.nD,
    (Cert.Pre_is_1302_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_1320_ReferenceIdeal [hPre_is_1320_ReferenceIdeal : Cert.Pre_is_1320_ReferenceIdeal.Facts] (m : (ℓ : Loc Cert.Reference.nD Cert.Reference.τ Cert.Reference.sig) → Buf (Elt Bits) ℓ) : Prop :=
  ∀ c : Dev Cert.Reference.nD,
    (Cert.Pre_is_1320_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_2013_ReferenceIdeal [hPre_is_2013_ReferenceIdeal : Cert.Pre_is_2013_ReferenceIdeal.Facts] (m : (ℓ : Loc Cert.Reference.nD Cert.Reference.τ Cert.Reference.sig) → Buf (Elt Bits) ℓ) : Prop :=
  ∀ c : Dev Cert.Reference.nD,
    (Cert.Pre_is_2013_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_2031_ReferenceIdeal [hPre_is_2031_ReferenceIdeal : Cert.Pre_is_2031_ReferenceIdeal.Facts] (m : (ℓ : Loc Cert.Reference.nD Cert.Reference.τ Cert.Reference.sig) → Buf (Elt Bits) ℓ) : Prop :=
  ∀ c : Dev Cert.Reference.nD,
    (Cert.Pre_is_2031_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_2103_ReferenceIdeal [hPre_is_2103_ReferenceIdeal : Cert.Pre_is_2103_ReferenceIdeal.Facts] (m : (ℓ : Loc Cert.Reference.nD Cert.Reference.τ Cert.Reference.sig) → Buf (Elt Bits) ℓ) : Prop :=
  ∀ c : Dev Cert.Reference.nD,
    (Cert.Pre_is_2103_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_2130_ReferenceIdeal [hPre_is_2130_ReferenceIdeal : Cert.Pre_is_2130_ReferenceIdeal.Facts] (m : (ℓ : Loc Cert.Reference.nD Cert.Reference.τ Cert.Reference.sig) → Buf (Elt Bits) ℓ) : Prop :=
  ∀ c : Dev Cert.Reference.nD,
    (Cert.Pre_is_2130_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_2301_ReferenceIdeal [hPre_is_2301_ReferenceIdeal : Cert.Pre_is_2301_ReferenceIdeal.Facts] (m : (ℓ : Loc Cert.Reference.nD Cert.Reference.τ Cert.Reference.sig) → Buf (Elt Bits) ℓ) : Prop :=
  ∀ c : Dev Cert.Reference.nD,
    (Cert.Pre_is_2301_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_2310_ReferenceIdeal [hPre_is_2310_ReferenceIdeal : Cert.Pre_is_2310_ReferenceIdeal.Facts] (m : (ℓ : Loc Cert.Reference.nD Cert.Reference.τ Cert.Reference.sig) → Buf (Elt Bits) ℓ) : Prop :=
  ∀ c : Dev Cert.Reference.nD,
    (Cert.Pre_is_2310_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_3012_ReferenceIdeal [hPre_is_3012_ReferenceIdeal : Cert.Pre_is_3012_ReferenceIdeal.Facts] (m : (ℓ : Loc Cert.Reference.nD Cert.Reference.τ Cert.Reference.sig) → Buf (Elt Bits) ℓ) : Prop :=
  ∀ c : Dev Cert.Reference.nD,
    (Cert.Pre_is_3012_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_3021_ReferenceIdeal [hPre_is_3021_ReferenceIdeal : Cert.Pre_is_3021_ReferenceIdeal.Facts] (m : (ℓ : Loc Cert.Reference.nD Cert.Reference.τ Cert.Reference.sig) → Buf (Elt Bits) ℓ) : Prop :=
  ∀ c : Dev Cert.Reference.nD,
    (Cert.Pre_is_3021_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_3102_ReferenceIdeal [hPre_is_3102_ReferenceIdeal : Cert.Pre_is_3102_ReferenceIdeal.Facts] (m : (ℓ : Loc Cert.Reference.nD Cert.Reference.τ Cert.Reference.sig) → Buf (Elt Bits) ℓ) : Prop :=
  ∀ c : Dev Cert.Reference.nD,
    (Cert.Pre_is_3102_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_3120_ReferenceIdeal [hPre_is_3120_ReferenceIdeal : Cert.Pre_is_3120_ReferenceIdeal.Facts] (m : (ℓ : Loc Cert.Reference.nD Cert.Reference.τ Cert.Reference.sig) → Buf (Elt Bits) ℓ) : Prop :=
  ∀ c : Dev Cert.Reference.nD,
    (Cert.Pre_is_3120_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_3201_ReferenceIdeal [hPre_is_3201_ReferenceIdeal : Cert.Pre_is_3201_ReferenceIdeal.Facts] (m : (ℓ : Loc Cert.Reference.nD Cert.Reference.τ Cert.Reference.sig) → Buf (Elt Bits) ℓ) : Prop :=
  ∀ c : Dev Cert.Reference.nD,
    (Cert.Pre_is_3201_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_is_3210_ReferenceIdeal [hPre_is_3210_ReferenceIdeal : Cert.Pre_is_3210_ReferenceIdeal.Facts] (m : (ℓ : Loc Cert.Reference.nD Cert.Reference.τ Cert.Reference.sig) → Buf (Elt Bits) ℓ) : Prop :=
  ∀ c : Dev Cert.Reference.nD,
    (Cert.Pre_is_3210_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_is_0123_Kernel : Cert.Pre_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_0132_Kernel [hKernel : Cert.Kernel.Facts] [hPre_is_0132_Kernel : Cert.Pre_is_0132_Kernel.Facts] : Prop :=
  ∀ (m : (ℓ : Loc Cert.Kernel.nD Cert.Kernel.τ Cert.Kernel.sig) → Buf (Elt Bits) ℓ) (g : Dev Cert.Kernel.nD → PrngReg), Pre_Kernel_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_0213_Kernel [hKernel : Cert.Kernel.Facts] [hPre_is_0213_Kernel : Cert.Pre_is_0213_Kernel.Facts] : Prop :=
  ∀ (m : (ℓ : Loc Cert.Kernel.nD Cert.Kernel.τ Cert.Kernel.sig) → Buf (Elt Bits) ℓ) (g : Dev Cert.Kernel.nD → PrngReg), Pre_Kernel_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_0231_Kernel [hKernel : Cert.Kernel.Facts] [hPre_is_0231_Kernel : Cert.Pre_is_0231_Kernel.Facts] : Prop :=
  ∀ (m : (ℓ : Loc Cert.Kernel.nD Cert.Kernel.τ Cert.Kernel.sig) → Buf (Elt Bits) ℓ) (g : Dev Cert.Kernel.nD → PrngReg), Pre_Kernel_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_0312_Kernel [hKernel : Cert.Kernel.Facts] [hPre_is_0312_Kernel : Cert.Pre_is_0312_Kernel.Facts] : Prop :=
  ∀ (m : (ℓ : Loc Cert.Kernel.nD Cert.Kernel.τ Cert.Kernel.sig) → Buf (Elt Bits) ℓ) (g : Dev Cert.Kernel.nD → PrngReg), Pre_Kernel_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_0321_Kernel [hKernel : Cert.Kernel.Facts] [hPre_is_0321_Kernel : Cert.Pre_is_0321_Kernel.Facts] : Prop :=
  ∀ (m : (ℓ : Loc Cert.Kernel.nD Cert.Kernel.τ Cert.Kernel.sig) → Buf (Elt Bits) ℓ) (g : Dev Cert.Kernel.nD → PrngReg), Pre_Kernel_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_1023_Kernel [hKernel : Cert.Kernel.Facts] [hPre_is_1023_Kernel : Cert.Pre_is_1023_Kernel.Facts] : Prop :=
  ∀ (m : (ℓ : Loc Cert.Kernel.nD Cert.Kernel.τ Cert.Kernel.sig) → Buf (Elt Bits) ℓ) (g : Dev Cert.Kernel.nD → PrngReg), Pre_Kernel_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_1032_Kernel [hKernel : Cert.Kernel.Facts] [hPre_is_1032_Kernel : Cert.Pre_is_1032_Kernel.Facts] : Prop :=
  ∀ (m : (ℓ : Loc Cert.Kernel.nD Cert.Kernel.τ Cert.Kernel.sig) → Buf (Elt Bits) ℓ) (g : Dev Cert.Kernel.nD → PrngReg), Pre_Kernel_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_1203_Kernel [hKernel : Cert.Kernel.Facts] [hPre_is_1203_Kernel : Cert.Pre_is_1203_Kernel.Facts] : Prop :=
  ∀ (m : (ℓ : Loc Cert.Kernel.nD Cert.Kernel.τ Cert.Kernel.sig) → Buf (Elt Bits) ℓ) (g : Dev Cert.Kernel.nD → PrngReg), Pre_Kernel_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_1230_Kernel [hKernel : Cert.Kernel.Facts] [hPre_is_1230_Kernel : Cert.Pre_is_1230_Kernel.Facts] : Prop :=
  ∀ (m : (ℓ : Loc Cert.Kernel.nD Cert.Kernel.τ Cert.Kernel.sig) → Buf (Elt Bits) ℓ) (g : Dev Cert.Kernel.nD → PrngReg), Pre_Kernel_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_1302_Kernel [hKernel : Cert.Kernel.Facts] [hPre_is_1302_Kernel : Cert.Pre_is_1302_Kernel.Facts] : Prop :=
  ∀ (m : (ℓ : Loc Cert.Kernel.nD Cert.Kernel.τ Cert.Kernel.sig) → Buf (Elt Bits) ℓ) (g : Dev Cert.Kernel.nD → PrngReg), Pre_Kernel_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_1320_Kernel [hKernel : Cert.Kernel.Facts] [hPre_is_1320_Kernel : Cert.Pre_is_1320_Kernel.Facts] : Prop :=
  ∀ (m : (ℓ : Loc Cert.Kernel.nD Cert.Kernel.τ Cert.Kernel.sig) → Buf (Elt Bits) ℓ) (g : Dev Cert.Kernel.nD → PrngReg), Pre_Kernel_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_2013_Kernel [hKernel : Cert.Kernel.Facts] [hPre_is_2013_Kernel : Cert.Pre_is_2013_Kernel.Facts] : Prop :=
  ∀ (m : (ℓ : Loc Cert.Kernel.nD Cert.Kernel.τ Cert.Kernel.sig) → Buf (Elt Bits) ℓ) (g : Dev Cert.Kernel.nD → PrngReg), Pre_Kernel_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_2031_Kernel [hKernel : Cert.Kernel.Facts] [hPre_is_2031_Kernel : Cert.Pre_is_2031_Kernel.Facts] : Prop :=
  ∀ (m : (ℓ : Loc Cert.Kernel.nD Cert.Kernel.τ Cert.Kernel.sig) → Buf (Elt Bits) ℓ) (g : Dev Cert.Kernel.nD → PrngReg), Pre_Kernel_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_2103_Kernel [hKernel : Cert.Kernel.Facts] [hPre_is_2103_Kernel : Cert.Pre_is_2103_Kernel.Facts] : Prop :=
  ∀ (m : (ℓ : Loc Cert.Kernel.nD Cert.Kernel.τ Cert.Kernel.sig) → Buf (Elt Bits) ℓ) (g : Dev Cert.Kernel.nD → PrngReg), Pre_Kernel_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_2130_Kernel [hKernel : Cert.Kernel.Facts] [hPre_is_2130_Kernel : Cert.Pre_is_2130_Kernel.Facts] : Prop :=
  ∀ (m : (ℓ : Loc Cert.Kernel.nD Cert.Kernel.τ Cert.Kernel.sig) → Buf (Elt Bits) ℓ) (g : Dev Cert.Kernel.nD → PrngReg), Pre_Kernel_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_2301_Kernel [hKernel : Cert.Kernel.Facts] [hPre_is_2301_Kernel : Cert.Pre_is_2301_Kernel.Facts] : Prop :=
  ∀ (m : (ℓ : Loc Cert.Kernel.nD Cert.Kernel.τ Cert.Kernel.sig) → Buf (Elt Bits) ℓ) (g : Dev Cert.Kernel.nD → PrngReg), Pre_Kernel_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_2310_Kernel [hKernel : Cert.Kernel.Facts] [hPre_is_2310_Kernel : Cert.Pre_is_2310_Kernel.Facts] : Prop :=
  ∀ (m : (ℓ : Loc Cert.Kernel.nD Cert.Kernel.τ Cert.Kernel.sig) → Buf (Elt Bits) ℓ) (g : Dev Cert.Kernel.nD → PrngReg), Pre_Kernel_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_3012_Kernel [hKernel : Cert.Kernel.Facts] [hPre_is_3012_Kernel : Cert.Pre_is_3012_Kernel.Facts] : Prop :=
  ∀ (m : (ℓ : Loc Cert.Kernel.nD Cert.Kernel.τ Cert.Kernel.sig) → Buf (Elt Bits) ℓ) (g : Dev Cert.Kernel.nD → PrngReg), Pre_Kernel_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_3021_Kernel [hKernel : Cert.Kernel.Facts] [hPre_is_3021_Kernel : Cert.Pre_is_3021_Kernel.Facts] : Prop :=
  ∀ (m : (ℓ : Loc Cert.Kernel.nD Cert.Kernel.τ Cert.Kernel.sig) → Buf (Elt Bits) ℓ) (g : Dev Cert.Kernel.nD → PrngReg), Pre_Kernel_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_3102_Kernel [hKernel : Cert.Kernel.Facts] [hPre_is_3102_Kernel : Cert.Pre_is_3102_Kernel.Facts] : Prop :=
  ∀ (m : (ℓ : Loc Cert.Kernel.nD Cert.Kernel.τ Cert.Kernel.sig) → Buf (Elt Bits) ℓ) (g : Dev Cert.Kernel.nD → PrngReg), Pre_Kernel_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_3120_Kernel [hKernel : Cert.Kernel.Facts] [hPre_is_3120_Kernel : Cert.Pre_is_3120_Kernel.Facts] : Prop :=
  ∀ (m : (ℓ : Loc Cert.Kernel.nD Cert.Kernel.τ Cert.Kernel.sig) → Buf (Elt Bits) ℓ) (g : Dev Cert.Kernel.nD → PrngReg), Pre_Kernel_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_3201_Kernel [hKernel : Cert.Kernel.Facts] [hPre_is_3201_Kernel : Cert.Pre_is_3201_Kernel.Facts] : Prop :=
  ∀ (m : (ℓ : Loc Cert.Kernel.nD Cert.Kernel.τ Cert.Kernel.sig) → Buf (Elt Bits) ℓ) (g : Dev Cert.Kernel.nD → PrngReg), Pre_Kernel_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_is_3210_Kernel [hKernel : Cert.Kernel.Facts] [hPre_is_3210_Kernel : Cert.Pre_is_3210_Kernel.Facts] : Prop :=
  ∀ (m : (ℓ : Loc Cert.Kernel.nD Cert.Kernel.τ Cert.Kernel.sig) → Buf (Elt Bits) ℓ) (g : Dev Cert.Kernel.nD → PrngReg), Pre_Kernel_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_is_0123_Kernel : Cert.Pre_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_0132_Kernel [hKernelIdeal : Cert.KernelIdeal.Facts] [hPre_is_0132_Kernel : Cert.Pre_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_0213_Kernel [hKernelIdeal : Cert.KernelIdeal.Facts] [hPre_is_0213_Kernel : Cert.Pre_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_0231_Kernel [hKernelIdeal : Cert.KernelIdeal.Facts] [hPre_is_0231_Kernel : Cert.Pre_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_0312_Kernel [hKernelIdeal : Cert.KernelIdeal.Facts] [hPre_is_0312_Kernel : Cert.Pre_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_0321_Kernel [hKernelIdeal : Cert.KernelIdeal.Facts] [hPre_is_0321_Kernel : Cert.Pre_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_1023_Kernel [hKernelIdeal : Cert.KernelIdeal.Facts] [hPre_is_1023_Kernel : Cert.Pre_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_1032_Kernel [hKernelIdeal : Cert.KernelIdeal.Facts] [hPre_is_1032_Kernel : Cert.Pre_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_1203_Kernel [hKernelIdeal : Cert.KernelIdeal.Facts] [hPre_is_1203_Kernel : Cert.Pre_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_1230_Kernel [hKernelIdeal : Cert.KernelIdeal.Facts] [hPre_is_1230_Kernel : Cert.Pre_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_1302_Kernel [hKernelIdeal : Cert.KernelIdeal.Facts] [hPre_is_1302_Kernel : Cert.Pre_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_1320_Kernel [hKernelIdeal : Cert.KernelIdeal.Facts] [hPre_is_1320_Kernel : Cert.Pre_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_2013_Kernel [hKernelIdeal : Cert.KernelIdeal.Facts] [hPre_is_2013_Kernel : Cert.Pre_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_2031_Kernel [hKernelIdeal : Cert.KernelIdeal.Facts] [hPre_is_2031_Kernel : Cert.Pre_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_2103_Kernel [hKernelIdeal : Cert.KernelIdeal.Facts] [hPre_is_2103_Kernel : Cert.Pre_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_2130_Kernel [hKernelIdeal : Cert.KernelIdeal.Facts] [hPre_is_2130_Kernel : Cert.Pre_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_2301_Kernel [hKernelIdeal : Cert.KernelIdeal.Facts] [hPre_is_2301_Kernel : Cert.Pre_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_2310_Kernel [hKernelIdeal : Cert.KernelIdeal.Facts] [hPre_is_2310_Kernel : Cert.Pre_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_3012_Kernel [hKernelIdeal : Cert.KernelIdeal.Facts] [hPre_is_3012_Kernel : Cert.Pre_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_3021_Kernel [hKernelIdeal : Cert.KernelIdeal.Facts] [hPre_is_3021_Kernel : Cert.Pre_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_3102_Kernel [hKernelIdeal : Cert.KernelIdeal.Facts] [hPre_is_3102_Kernel : Cert.Pre_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_3120_Kernel [hKernelIdeal : Cert.KernelIdeal.Facts] [hPre_is_3120_Kernel : Cert.Pre_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_3201_Kernel [hKernelIdeal : Cert.KernelIdeal.Facts] [hPre_is_3201_Kernel : Cert.Pre_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_is_3210_Kernel [hKernelIdeal : Cert.KernelIdeal.Facts] [hPre_is_3210_Kernel : Cert.Pre_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_0123_ReferenceIdeal [hReferenceIdeal : Cert.ReferenceIdeal.Facts] [hPre_is_0123_ReferenceIdeal : Cert.Pre_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_0132_ReferenceIdeal [hReferenceIdeal : Cert.ReferenceIdeal.Facts] [hPre_is_0132_ReferenceIdeal : Cert.Pre_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_0213_ReferenceIdeal [hReferenceIdeal : Cert.ReferenceIdeal.Facts] [hPre_is_0213_ReferenceIdeal : Cert.Pre_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_0231_ReferenceIdeal [hReferenceIdeal : Cert.ReferenceIdeal.Facts] [hPre_is_0231_ReferenceIdeal : Cert.Pre_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_0312_ReferenceIdeal [hReferenceIdeal : Cert.ReferenceIdeal.Facts] [hPre_is_0312_ReferenceIdeal : Cert.Pre_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_0321_ReferenceIdeal [hReferenceIdeal : Cert.ReferenceIdeal.Facts] [hPre_is_0321_ReferenceIdeal : Cert.Pre_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_1023_ReferenceIdeal [hReferenceIdeal : Cert.ReferenceIdeal.Facts] [hPre_is_1023_ReferenceIdeal : Cert.Pre_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_1032_ReferenceIdeal [hReferenceIdeal : Cert.ReferenceIdeal.Facts] [hPre_is_1032_ReferenceIdeal : Cert.Pre_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_1203_ReferenceIdeal [hReferenceIdeal : Cert.ReferenceIdeal.Facts] [hPre_is_1203_ReferenceIdeal : Cert.Pre_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_1230_ReferenceIdeal [hReferenceIdeal : Cert.ReferenceIdeal.Facts] [hPre_is_1230_ReferenceIdeal : Cert.Pre_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_1302_ReferenceIdeal [hReferenceIdeal : Cert.ReferenceIdeal.Facts] [hPre_is_1302_ReferenceIdeal : Cert.Pre_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_1320_ReferenceIdeal [hReferenceIdeal : Cert.ReferenceIdeal.Facts] [hPre_is_1320_ReferenceIdeal : Cert.Pre_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_2013_ReferenceIdeal [hReferenceIdeal : Cert.ReferenceIdeal.Facts] [hPre_is_2013_ReferenceIdeal : Cert.Pre_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_2031_ReferenceIdeal [hReferenceIdeal : Cert.ReferenceIdeal.Facts] [hPre_is_2031_ReferenceIdeal : Cert.Pre_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_2103_ReferenceIdeal [hReferenceIdeal : Cert.ReferenceIdeal.Facts] [hPre_is_2103_ReferenceIdeal : Cert.Pre_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_2130_ReferenceIdeal [hReferenceIdeal : Cert.ReferenceIdeal.Facts] [hPre_is_2130_ReferenceIdeal : Cert.Pre_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_2301_ReferenceIdeal [hReferenceIdeal : Cert.ReferenceIdeal.Facts] [hPre_is_2301_ReferenceIdeal : Cert.Pre_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_2310_ReferenceIdeal [hReferenceIdeal : Cert.ReferenceIdeal.Facts] [hPre_is_2310_ReferenceIdeal : Cert.Pre_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_3012_ReferenceIdeal [hReferenceIdeal : Cert.ReferenceIdeal.Facts] [hPre_is_3012_ReferenceIdeal : Cert.Pre_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_3021_ReferenceIdeal [hReferenceIdeal : Cert.ReferenceIdeal.Facts] [hPre_is_3021_ReferenceIdeal : Cert.Pre_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_3102_ReferenceIdeal [hReferenceIdeal : Cert.ReferenceIdeal.Facts] [hPre_is_3102_ReferenceIdeal : Cert.Pre_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_3120_ReferenceIdeal [hReferenceIdeal : Cert.ReferenceIdeal.Facts] [hPre_is_3120_ReferenceIdeal : Cert.Pre_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_3201_ReferenceIdeal [hReferenceIdeal : Cert.ReferenceIdeal.Facts] [hPre_is_3201_ReferenceIdeal : Cert.Pre_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_is_3210_ReferenceIdeal [hReferenceIdeal : Cert.ReferenceIdeal.Facts] [hPre_is_3210_ReferenceIdeal : Cert.Pre_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_is_0123_ReferenceIdeal : Cert.Pre_is_0123_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_0132_ReferenceIdeal [hReference : Cert.Reference.Facts] [hPre_is_0132_ReferenceIdeal : Cert.Pre_is_0132_ReferenceIdeal.Facts] : Prop :=
  ∀ (m : (ℓ : Loc Cert.Reference.nD Cert.Reference.τ Cert.Reference.sig) → Buf (Elt Bits) ℓ) (g : Dev Cert.Reference.nD → PrngReg), Pre_Reference_is_0132_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_0213_ReferenceIdeal [hReference : Cert.Reference.Facts] [hPre_is_0213_ReferenceIdeal : Cert.Pre_is_0213_ReferenceIdeal.Facts] : Prop :=
  ∀ (m : (ℓ : Loc Cert.Reference.nD Cert.Reference.τ Cert.Reference.sig) → Buf (Elt Bits) ℓ) (g : Dev Cert.Reference.nD → PrngReg), Pre_Reference_is_0213_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_0231_ReferenceIdeal [hReference : Cert.Reference.Facts] [hPre_is_0231_ReferenceIdeal : Cert.Pre_is_0231_ReferenceIdeal.Facts] : Prop :=
  ∀ (m : (ℓ : Loc Cert.Reference.nD Cert.Reference.τ Cert.Reference.sig) → Buf (Elt Bits) ℓ) (g : Dev Cert.Reference.nD → PrngReg), Pre_Reference_is_0231_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_0312_ReferenceIdeal [hReference : Cert.Reference.Facts] [hPre_is_0312_ReferenceIdeal : Cert.Pre_is_0312_ReferenceIdeal.Facts] : Prop :=
  ∀ (m : (ℓ : Loc Cert.Reference.nD Cert.Reference.τ Cert.Reference.sig) → Buf (Elt Bits) ℓ) (g : Dev Cert.Reference.nD → PrngReg), Pre_Reference_is_0312_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_0321_ReferenceIdeal [hReference : Cert.Reference.Facts] [hPre_is_0321_ReferenceIdeal : Cert.Pre_is_0321_ReferenceIdeal.Facts] : Prop :=
  ∀ (m : (ℓ : Loc Cert.Reference.nD Cert.Reference.τ Cert.Reference.sig) → Buf (Elt Bits) ℓ) (g : Dev Cert.Reference.nD → PrngReg), Pre_Reference_is_0321_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_1023_ReferenceIdeal [hReference : Cert.Reference.Facts] [hPre_is_1023_ReferenceIdeal : Cert.Pre_is_1023_ReferenceIdeal.Facts] : Prop :=
  ∀ (m : (ℓ : Loc Cert.Reference.nD Cert.Reference.τ Cert.Reference.sig) → Buf (Elt Bits) ℓ) (g : Dev Cert.Reference.nD → PrngReg), Pre_Reference_is_1023_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_1032_ReferenceIdeal [hReference : Cert.Reference.Facts] [hPre_is_1032_ReferenceIdeal : Cert.Pre_is_1032_ReferenceIdeal.Facts] : Prop :=
  ∀ (m : (ℓ : Loc Cert.Reference.nD Cert.Reference.τ Cert.Reference.sig) → Buf (Elt Bits) ℓ) (g : Dev Cert.Reference.nD → PrngReg), Pre_Reference_is_1032_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_1203_ReferenceIdeal [hReference : Cert.Reference.Facts] [hPre_is_1203_ReferenceIdeal : Cert.Pre_is_1203_ReferenceIdeal.Facts] : Prop :=
  ∀ (m : (ℓ : Loc Cert.Reference.nD Cert.Reference.τ Cert.Reference.sig) → Buf (Elt Bits) ℓ) (g : Dev Cert.Reference.nD → PrngReg), Pre_Reference_is_1203_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_1230_ReferenceIdeal [hReference : Cert.Reference.Facts] [hPre_is_1230_ReferenceIdeal : Cert.Pre_is_1230_ReferenceIdeal.Facts] : Prop :=
  ∀ (m : (ℓ : Loc Cert.Reference.nD Cert.Reference.τ Cert.Reference.sig) → Buf (Elt Bits) ℓ) (g : Dev Cert.Reference.nD → PrngReg), Pre_Reference_is_1230_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_1302_ReferenceIdeal [hReference : Cert.Reference.Facts] [hPre_is_1302_ReferenceIdeal : Cert.Pre_is_1302_ReferenceIdeal.Facts] : Prop :=
  ∀ (m : (ℓ : Loc Cert.Reference.nD Cert.Reference.τ Cert.Reference.sig) → Buf (Elt Bits) ℓ) (g : Dev Cert.Reference.nD → PrngReg), Pre_Reference_is_1302_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_1320_ReferenceIdeal [hReference : Cert.Reference.Facts] [hPre_is_1320_ReferenceIdeal : Cert.Pre_is_1320_ReferenceIdeal.Facts] : Prop :=
  ∀ (m : (ℓ : Loc Cert.Reference.nD Cert.Reference.τ Cert.Reference.sig) → Buf (Elt Bits) ℓ) (g : Dev Cert.Reference.nD → PrngReg), Pre_Reference_is_1320_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_2013_ReferenceIdeal [hReference : Cert.Reference.Facts] [hPre_is_2013_ReferenceIdeal : Cert.Pre_is_2013_ReferenceIdeal.Facts] : Prop :=
  ∀ (m : (ℓ : Loc Cert.Reference.nD Cert.Reference.τ Cert.Reference.sig) → Buf (Elt Bits) ℓ) (g : Dev Cert.Reference.nD → PrngReg), Pre_Reference_is_2013_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_2031_ReferenceIdeal [hReference : Cert.Reference.Facts] [hPre_is_2031_ReferenceIdeal : Cert.Pre_is_2031_ReferenceIdeal.Facts] : Prop :=
  ∀ (m : (ℓ : Loc Cert.Reference.nD Cert.Reference.τ Cert.Reference.sig) → Buf (Elt Bits) ℓ) (g : Dev Cert.Reference.nD → PrngReg), Pre_Reference_is_2031_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_2103_ReferenceIdeal [hReference : Cert.Reference.Facts] [hPre_is_2103_ReferenceIdeal : Cert.Pre_is_2103_ReferenceIdeal.Facts] : Prop :=
  ∀ (m : (ℓ : Loc Cert.Reference.nD Cert.Reference.τ Cert.Reference.sig) → Buf (Elt Bits) ℓ) (g : Dev Cert.Reference.nD → PrngReg), Pre_Reference_is_2103_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_2130_ReferenceIdeal [hReference : Cert.Reference.Facts] [hPre_is_2130_ReferenceIdeal : Cert.Pre_is_2130_ReferenceIdeal.Facts] : Prop :=
  ∀ (m : (ℓ : Loc Cert.Reference.nD Cert.Reference.τ Cert.Reference.sig) → Buf (Elt Bits) ℓ) (g : Dev Cert.Reference.nD → PrngReg), Pre_Reference_is_2130_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_2301_ReferenceIdeal [hReference : Cert.Reference.Facts] [hPre_is_2301_ReferenceIdeal : Cert.Pre_is_2301_ReferenceIdeal.Facts] : Prop :=
  ∀ (m : (ℓ : Loc Cert.Reference.nD Cert.Reference.τ Cert.Reference.sig) → Buf (Elt Bits) ℓ) (g : Dev Cert.Reference.nD → PrngReg), Pre_Reference_is_2301_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_2310_ReferenceIdeal [hReference : Cert.Reference.Facts] [hPre_is_2310_ReferenceIdeal : Cert.Pre_is_2310_ReferenceIdeal.Facts] : Prop :=
  ∀ (m : (ℓ : Loc Cert.Reference.nD Cert.Reference.τ Cert.Reference.sig) → Buf (Elt Bits) ℓ) (g : Dev Cert.Reference.nD → PrngReg), Pre_Reference_is_2310_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_3012_ReferenceIdeal [hReference : Cert.Reference.Facts] [hPre_is_3012_ReferenceIdeal : Cert.Pre_is_3012_ReferenceIdeal.Facts] : Prop :=
  ∀ (m : (ℓ : Loc Cert.Reference.nD Cert.Reference.τ Cert.Reference.sig) → Buf (Elt Bits) ℓ) (g : Dev Cert.Reference.nD → PrngReg), Pre_Reference_is_3012_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_3021_ReferenceIdeal [hReference : Cert.Reference.Facts] [hPre_is_3021_ReferenceIdeal : Cert.Pre_is_3021_ReferenceIdeal.Facts] : Prop :=
  ∀ (m : (ℓ : Loc Cert.Reference.nD Cert.Reference.τ Cert.Reference.sig) → Buf (Elt Bits) ℓ) (g : Dev Cert.Reference.nD → PrngReg), Pre_Reference_is_3021_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_3102_ReferenceIdeal [hReference : Cert.Reference.Facts] [hPre_is_3102_ReferenceIdeal : Cert.Pre_is_3102_ReferenceIdeal.Facts] : Prop :=
  ∀ (m : (ℓ : Loc Cert.Reference.nD Cert.Reference.τ Cert.Reference.sig) → Buf (Elt Bits) ℓ) (g : Dev Cert.Reference.nD → PrngReg), Pre_Reference_is_3102_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_3120_ReferenceIdeal [hReference : Cert.Reference.Facts] [hPre_is_3120_ReferenceIdeal : Cert.Pre_is_3120_ReferenceIdeal.Facts] : Prop :=
  ∀ (m : (ℓ : Loc Cert.Reference.nD Cert.Reference.τ Cert.Reference.sig) → Buf (Elt Bits) ℓ) (g : Dev Cert.Reference.nD → PrngReg), Pre_Reference_is_3120_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_3201_ReferenceIdeal [hReference : Cert.Reference.Facts] [hPre_is_3201_ReferenceIdeal : Cert.Pre_is_3201_ReferenceIdeal.Facts] : Prop :=
  ∀ (m : (ℓ : Loc Cert.Reference.nD Cert.Reference.τ Cert.Reference.sig) → Buf (Elt Bits) ℓ) (g : Dev Cert.Reference.nD → PrngReg), Pre_Reference_is_3201_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_is_3210_ReferenceIdeal [hReference : Cert.Reference.Facts] [hPre_is_3210_ReferenceIdeal : Cert.Pre_is_3210_ReferenceIdeal.Facts] : Prop :=
  ∀ (m : (ℓ : Loc Cert.Reference.nD Cert.Reference.τ Cert.Reference.sig) → Buf (Elt Bits) ℓ) (g : Dev Cert.Reference.nD → PrngReg), Pre_Reference_is_3210_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_is_0123_Kernel : Cert.Pre_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_0132_Kernel [hKernelIdeal : Cert.KernelIdeal.Facts] [hReferenceIdeal : Cert.ReferenceIdeal.Facts] [hPre_is_0132_Kernel : Cert.Pre_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_0132_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_0213_Kernel [hKernelIdeal : Cert.KernelIdeal.Facts] [hReferenceIdeal : Cert.ReferenceIdeal.Facts] [hPre_is_0213_Kernel : Cert.Pre_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_0213_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_0231_Kernel [hKernelIdeal : Cert.KernelIdeal.Facts] [hReferenceIdeal : Cert.ReferenceIdeal.Facts] [hPre_is_0231_Kernel : Cert.Pre_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_0231_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_0312_Kernel [hKernelIdeal : Cert.KernelIdeal.Facts] [hReferenceIdeal : Cert.ReferenceIdeal.Facts] [hPre_is_0312_Kernel : Cert.Pre_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_0312_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_0321_Kernel [hKernelIdeal : Cert.KernelIdeal.Facts] [hReferenceIdeal : Cert.ReferenceIdeal.Facts] [hPre_is_0321_Kernel : Cert.Pre_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_0321_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_1023_Kernel [hKernelIdeal : Cert.KernelIdeal.Facts] [hReferenceIdeal : Cert.ReferenceIdeal.Facts] [hPre_is_1023_Kernel : Cert.Pre_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_1023_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_1032_Kernel [hKernelIdeal : Cert.KernelIdeal.Facts] [hReferenceIdeal : Cert.ReferenceIdeal.Facts] [hPre_is_1032_Kernel : Cert.Pre_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_1032_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_1203_Kernel [hKernelIdeal : Cert.KernelIdeal.Facts] [hReferenceIdeal : Cert.ReferenceIdeal.Facts] [hPre_is_1203_Kernel : Cert.Pre_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_1203_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_1230_Kernel [hKernelIdeal : Cert.KernelIdeal.Facts] [hReferenceIdeal : Cert.ReferenceIdeal.Facts] [hPre_is_1230_Kernel : Cert.Pre_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_1230_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_1302_Kernel [hKernelIdeal : Cert.KernelIdeal.Facts] [hReferenceIdeal : Cert.ReferenceIdeal.Facts] [hPre_is_1302_Kernel : Cert.Pre_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_1302_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_1320_Kernel [hKernelIdeal : Cert.KernelIdeal.Facts] [hReferenceIdeal : Cert.ReferenceIdeal.Facts] [hPre_is_1320_Kernel : Cert.Pre_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_1320_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_2013_Kernel [hKernelIdeal : Cert.KernelIdeal.Facts] [hReferenceIdeal : Cert.ReferenceIdeal.Facts] [hPre_is_2013_Kernel : Cert.Pre_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_2013_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_2031_Kernel [hKernelIdeal : Cert.KernelIdeal.Facts] [hReferenceIdeal : Cert.ReferenceIdeal.Facts] [hPre_is_2031_Kernel : Cert.Pre_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_2031_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_2103_Kernel [hKernelIdeal : Cert.KernelIdeal.Facts] [hReferenceIdeal : Cert.ReferenceIdeal.Facts] [hPre_is_2103_Kernel : Cert.Pre_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_2103_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_2130_Kernel [hKernelIdeal : Cert.KernelIdeal.Facts] [hReferenceIdeal : Cert.ReferenceIdeal.Facts] [hPre_is_2130_Kernel : Cert.Pre_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_2130_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_2301_Kernel [hKernelIdeal : Cert.KernelIdeal.Facts] [hReferenceIdeal : Cert.ReferenceIdeal.Facts] [hPre_is_2301_Kernel : Cert.Pre_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_2301_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_2310_Kernel [hKernelIdeal : Cert.KernelIdeal.Facts] [hReferenceIdeal : Cert.ReferenceIdeal.Facts] [hPre_is_2310_Kernel : Cert.Pre_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_2310_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_3012_Kernel [hKernelIdeal : Cert.KernelIdeal.Facts] [hReferenceIdeal : Cert.ReferenceIdeal.Facts] [hPre_is_3012_Kernel : Cert.Pre_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_3012_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_3021_Kernel [hKernelIdeal : Cert.KernelIdeal.Facts] [hReferenceIdeal : Cert.ReferenceIdeal.Facts] [hPre_is_3021_Kernel : Cert.Pre_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_3021_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_3102_Kernel [hKernelIdeal : Cert.KernelIdeal.Facts] [hReferenceIdeal : Cert.ReferenceIdeal.Facts] [hPre_is_3102_Kernel : Cert.Pre_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_3102_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_3120_Kernel [hKernelIdeal : Cert.KernelIdeal.Facts] [hReferenceIdeal : Cert.ReferenceIdeal.Facts] [hPre_is_3120_Kernel : Cert.Pre_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_3120_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_3201_Kernel [hKernelIdeal : Cert.KernelIdeal.Facts] [hReferenceIdeal : Cert.ReferenceIdeal.Facts] [hPre_is_3201_Kernel : Cert.Pre_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_3201_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_is_3210_Kernel [hKernelIdeal : Cert.KernelIdeal.Facts] [hReferenceIdeal : Cert.ReferenceIdeal.Facts] [hPre_is_3210_Kernel : Cert.Pre_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_3210_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_is_0123_Kernel : Cert.Pre_is_0123_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_0132_Kernel [hKernel : Cert.Kernel.Facts] [hReference : Cert.Reference.Facts] [hPre_is_0132_Kernel : Cert.Pre_is_0132_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_0132_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_0213_Kernel [hKernel : Cert.Kernel.Facts] [hReference : Cert.Reference.Facts] [hPre_is_0213_Kernel : Cert.Pre_is_0213_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_0213_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_0231_Kernel [hKernel : Cert.Kernel.Facts] [hReference : Cert.Reference.Facts] [hPre_is_0231_Kernel : Cert.Pre_is_0231_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_0231_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_0312_Kernel [hKernel : Cert.Kernel.Facts] [hReference : Cert.Reference.Facts] [hPre_is_0312_Kernel : Cert.Pre_is_0312_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_0312_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_0321_Kernel [hKernel : Cert.Kernel.Facts] [hReference : Cert.Reference.Facts] [hPre_is_0321_Kernel : Cert.Pre_is_0321_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_0321_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_1023_Kernel [hKernel : Cert.Kernel.Facts] [hReference : Cert.Reference.Facts] [hPre_is_1023_Kernel : Cert.Pre_is_1023_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_1023_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_1032_Kernel [hKernel : Cert.Kernel.Facts] [hReference : Cert.Reference.Facts] [hPre_is_1032_Kernel : Cert.Pre_is_1032_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_1032_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_1203_Kernel [hKernel : Cert.Kernel.Facts] [hReference : Cert.Reference.Facts] [hPre_is_1203_Kernel : Cert.Pre_is_1203_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_1203_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_1230_Kernel [hKernel : Cert.Kernel.Facts] [hReference : Cert.Reference.Facts] [hPre_is_1230_Kernel : Cert.Pre_is_1230_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_1230_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_1302_Kernel [hKernel : Cert.Kernel.Facts] [hReference : Cert.Reference.Facts] [hPre_is_1302_Kernel : Cert.Pre_is_1302_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_1302_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_1320_Kernel [hKernel : Cert.Kernel.Facts] [hReference : Cert.Reference.Facts] [hPre_is_1320_Kernel : Cert.Pre_is_1320_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_1320_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_2013_Kernel [hKernel : Cert.Kernel.Facts] [hReference : Cert.Reference.Facts] [hPre_is_2013_Kernel : Cert.Pre_is_2013_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_2013_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_2031_Kernel [hKernel : Cert.Kernel.Facts] [hReference : Cert.Reference.Facts] [hPre_is_2031_Kernel : Cert.Pre_is_2031_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_2031_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_2103_Kernel [hKernel : Cert.Kernel.Facts] [hReference : Cert.Reference.Facts] [hPre_is_2103_Kernel : Cert.Pre_is_2103_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_2103_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_2130_Kernel [hKernel : Cert.Kernel.Facts] [hReference : Cert.Reference.Facts] [hPre_is_2130_Kernel : Cert.Pre_is_2130_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_2130_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_2301_Kernel [hKernel : Cert.Kernel.Facts] [hReference : Cert.Reference.Facts] [hPre_is_2301_Kernel : Cert.Pre_is_2301_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_2301_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_2310_Kernel [hKernel : Cert.Kernel.Facts] [hReference : Cert.Reference.Facts] [hPre_is_2310_Kernel : Cert.Pre_is_2310_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_2310_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_3012_Kernel [hKernel : Cert.Kernel.Facts] [hReference : Cert.Reference.Facts] [hPre_is_3012_Kernel : Cert.Pre_is_3012_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_3012_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_3021_Kernel [hKernel : Cert.Kernel.Facts] [hReference : Cert.Reference.Facts] [hPre_is_3021_Kernel : Cert.Pre_is_3021_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_3021_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_3102_Kernel [hKernel : Cert.Kernel.Facts] [hReference : Cert.Reference.Facts] [hPre_is_3102_Kernel : Cert.Pre_is_3102_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_3102_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_3120_Kernel [hKernel : Cert.Kernel.Facts] [hReference : Cert.Reference.Facts] [hPre_is_3120_Kernel : Cert.Pre_is_3120_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_3120_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_3201_Kernel [hKernel : Cert.Kernel.Facts] [hReference : Cert.Reference.Facts] [hPre_is_3201_Kernel : Cert.Pre_is_3201_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_3201_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_is_3210_Kernel [hKernel : Cert.Kernel.Facts] [hReference : Cert.Reference.Facts] [hPre_is_3210_Kernel : Cert.Pre_is_3210_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_is_3210_Kernel m →
    (∀ c : Dev Cert.Kernel.nD,
      m ((c.tc : Thread Cert.Kernel.nD Cert.Kernel.τ).loc Cert.Kernel.main_arg0) = Layout.blockN ⟨3, ![1, 4096, 2048]⟩ ⟨3, ![4, 4096, 2048]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 4096, 2048]⟩ ⟨3, ![4, 4096, 2048]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_is_0123_Kernel : Cert.Pre_is_0123_Kernel.Facts) (hPre_is_0132_Kernel : Cert.Pre_is_0132_Kernel.Facts) (hPre_is_0213_Kernel : Cert.Pre_is_0213_Kernel.Facts) (hPre_is_0231_Kernel : Cert.Pre_is_0231_Kernel.Facts) (hPre_is_0312_Kernel : Cert.Pre_is_0312_Kernel.Facts) (hPre_is_0321_Kernel : Cert.Pre_is_0321_Kernel.Facts) (hPre_is_1023_Kernel : Cert.Pre_is_1023_Kernel.Facts) (hPre_is_1032_Kernel : Cert.Pre_is_1032_Kernel.Facts) (hPre_is_1203_Kernel : Cert.Pre_is_1203_Kernel.Facts) (hPre_is_1230_Kernel : Cert.Pre_is_1230_Kernel.Facts) (hPre_is_1302_Kernel : Cert.Pre_is_1302_Kernel.Facts) (hPre_is_1320_Kernel : Cert.Pre_is_1320_Kernel.Facts) (hPre_is_2013_Kernel : Cert.Pre_is_2013_Kernel.Facts) (hPre_is_2031_Kernel : Cert.Pre_is_2031_Kernel.Facts) (hPre_is_2103_Kernel : Cert.Pre_is_2103_Kernel.Facts) (hPre_is_2130_Kernel : Cert.Pre_is_2130_Kernel.Facts) (hPre_is_2301_Kernel : Cert.Pre_is_2301_Kernel.Facts) (hPre_is_2310_Kernel : Cert.Pre_is_2310_Kernel.Facts) (hPre_is_3012_Kernel : Cert.Pre_is_3012_Kernel.Facts) (hPre_is_3021_Kernel : Cert.Pre_is_3021_Kernel.Facts) (hPre_is_3102_Kernel : Cert.Pre_is_3102_Kernel.Facts) (hPre_is_3120_Kernel : Cert.Pre_is_3120_Kernel.Facts) (hPre_is_3201_Kernel : Cert.Pre_is_3201_Kernel.Facts) (hPre_is_3210_Kernel : Cert.Pre_is_3210_Kernel.Facts) (hPre_is_0123_ReferenceIdeal : Cert.Pre_is_0123_ReferenceIdeal.Facts) (hPre_is_0132_ReferenceIdeal : Cert.Pre_is_0132_ReferenceIdeal.Facts) (hPre_is_0213_ReferenceIdeal : Cert.Pre_is_0213_ReferenceIdeal.Facts) (hPre_is_0231_ReferenceIdeal : Cert.Pre_is_0231_ReferenceIdeal.Facts) (hPre_is_0312_ReferenceIdeal : Cert.Pre_is_0312_ReferenceIdeal.Facts) (hPre_is_0321_ReferenceIdeal : Cert.Pre_is_0321_ReferenceIdeal.Facts) (hPre_is_1023_ReferenceIdeal : Cert.Pre_is_1023_ReferenceIdeal.Facts) (hPre_is_1032_ReferenceIdeal : Cert.Pre_is_1032_ReferenceIdeal.Facts) (hPre_is_1203_ReferenceIdeal : Cert.Pre_is_1203_ReferenceIdeal.Facts) (hPre_is_1230_ReferenceIdeal : Cert.Pre_is_1230_ReferenceIdeal.Facts) (hPre_is_1302_ReferenceIdeal : Cert.Pre_is_1302_ReferenceIdeal.Facts) (hPre_is_1320_ReferenceIdeal : Cert.Pre_is_1320_ReferenceIdeal.Facts) (hPre_is_2013_ReferenceIdeal : Cert.Pre_is_2013_ReferenceIdeal.Facts) (hPre_is_2031_ReferenceIdeal : Cert.Pre_is_2031_ReferenceIdeal.Facts) (hPre_is_2103_ReferenceIdeal : Cert.Pre_is_2103_ReferenceIdeal.Facts) (hPre_is_2130_ReferenceIdeal : Cert.Pre_is_2130_ReferenceIdeal.Facts) (hPre_is_2301_ReferenceIdeal : Cert.Pre_is_2301_ReferenceIdeal.Facts) (hPre_is_2310_ReferenceIdeal : Cert.Pre_is_2310_ReferenceIdeal.Facts) (hPre_is_3012_ReferenceIdeal : Cert.Pre_is_3012_ReferenceIdeal.Facts) (hPre_is_3021_ReferenceIdeal : Cert.Pre_is_3021_ReferenceIdeal.Facts) (hPre_is_3102_ReferenceIdeal : Cert.Pre_is_3102_ReferenceIdeal.Facts) (hPre_is_3120_ReferenceIdeal : Cert.Pre_is_3120_ReferenceIdeal.Facts) (hPre_is_3201_ReferenceIdeal : Cert.Pre_is_3201_ReferenceIdeal.Facts) (hPre_is_3210_ReferenceIdeal : Cert.Pre_is_3210_ReferenceIdeal.Facts),
    quiescent_Kernel (hKernel := hKernel) (hPre_is_0123_Kernel := hPre_is_0123_Kernel)
    ∧ quiescent_Kernel_pre_is_0132_Kernel (hKernel := hKernel) (hPre_is_0132_Kernel := hPre_is_0132_Kernel)
    ∧ quiescent_Kernel_pre_is_0213_Kernel (hKernel := hKernel) (hPre_is_0213_Kernel := hPre_is_0213_Kernel)
    ∧ quiescent_Kernel_pre_is_0231_Kernel (hKernel := hKernel) (hPre_is_0231_Kernel := hPre_is_0231_Kernel)
    ∧ quiescent_Kernel_pre_is_0312_Kernel (hKernel := hKernel) (hPre_is_0312_Kernel := hPre_is_0312_Kernel)
    ∧ quiescent_Kernel_pre_is_0321_Kernel (hKernel := hKernel) (hPre_is_0321_Kernel := hPre_is_0321_Kernel)
    ∧ quiescent_Kernel_pre_is_1023_Kernel (hKernel := hKernel) (hPre_is_1023_Kernel := hPre_is_1023_Kernel)
    ∧ quiescent_Kernel_pre_is_1032_Kernel (hKernel := hKernel) (hPre_is_1032_Kernel := hPre_is_1032_Kernel)
    ∧ quiescent_Kernel_pre_is_1203_Kernel (hKernel := hKernel) (hPre_is_1203_Kernel := hPre_is_1203_Kernel)
    ∧ quiescent_Kernel_pre_is_1230_Kernel (hKernel := hKernel) (hPre_is_1230_Kernel := hPre_is_1230_Kernel)
    ∧ quiescent_Kernel_pre_is_1302_Kernel (hKernel := hKernel) (hPre_is_1302_Kernel := hPre_is_1302_Kernel)
    ∧ quiescent_Kernel_pre_is_1320_Kernel (hKernel := hKernel) (hPre_is_1320_Kernel := hPre_is_1320_Kernel)
    ∧ quiescent_Kernel_pre_is_2013_Kernel (hKernel := hKernel) (hPre_is_2013_Kernel := hPre_is_2013_Kernel)
    ∧ quiescent_Kernel_pre_is_2031_Kernel (hKernel := hKernel) (hPre_is_2031_Kernel := hPre_is_2031_Kernel)
    ∧ quiescent_Kernel_pre_is_2103_Kernel (hKernel := hKernel) (hPre_is_2103_Kernel := hPre_is_2103_Kernel)
    ∧ quiescent_Kernel_pre_is_2130_Kernel (hKernel := hKernel) (hPre_is_2130_Kernel := hPre_is_2130_Kernel)
    ∧ quiescent_Kernel_pre_is_2301_Kernel (hKernel := hKernel) (hPre_is_2301_Kernel := hPre_is_2301_Kernel)
    ∧ quiescent_Kernel_pre_is_2310_Kernel (hKernel := hKernel) (hPre_is_2310_Kernel := hPre_is_2310_Kernel)
    ∧ quiescent_Kernel_pre_is_3012_Kernel (hKernel := hKernel) (hPre_is_3012_Kernel := hPre_is_3012_Kernel)
    ∧ quiescent_Kernel_pre_is_3021_Kernel (hKernel := hKernel) (hPre_is_3021_Kernel := hPre_is_3021_Kernel)
    ∧ quiescent_Kernel_pre_is_3102_Kernel (hKernel := hKernel) (hPre_is_3102_Kernel := hPre_is_3102_Kernel)
    ∧ quiescent_Kernel_pre_is_3120_Kernel (hKernel := hKernel) (hPre_is_3120_Kernel := hPre_is_3120_Kernel)
    ∧ quiescent_Kernel_pre_is_3201_Kernel (hKernel := hKernel) (hPre_is_3201_Kernel := hPre_is_3201_Kernel)
    ∧ quiescent_Kernel_pre_is_3210_Kernel (hKernel := hKernel) (hPre_is_3210_Kernel := hPre_is_3210_Kernel)
    ∧ quiescent_KernelIdeal (hKernelIdeal := hKernelIdeal) (hPre_is_0123_Kernel := hPre_is_0123_Kernel)
    ∧ quiescent_KernelIdeal_pre_is_0132_Kernel (hKernelIdeal := hKernelIdeal) (hPre_is_0132_Kernel := hPre_is_0132_Kernel)
    ∧ quiescent_KernelIdeal_pre_is_0213_Kernel (hKernelIdeal := hKernelIdeal) (hPre_is_0213_Kernel := hPre_is_0213_Kernel)
    ∧ quiescent_KernelIdeal_pre_is_0231_Kernel (hKernelIdeal := hKernelIdeal) (hPre_is_0231_Kernel := hPre_is_0231_Kernel)
    ∧ quiescent_KernelIdeal_pre_is_0312_Kernel (hKernelIdeal := hKernelIdeal) (hPre_is_0312_Kernel := hPre_is_0312_Kernel)
    ∧ quiescent_KernelIdeal_pre_is_0321_Kernel (hKernelIdeal := hKernelIdeal) (hPre_is_0321_Kernel := hPre_is_0321_Kernel)
    ∧ quiescent_KernelIdeal_pre_is_1023_Kernel (hKernelIdeal := hKernelIdeal) (hPre_is_1023_Kernel := hPre_is_1023_Kernel)
    ∧ quiescent_KernelIdeal_pre_is_1032_Kernel (hKernelIdeal := hKernelIdeal) (hPre_is_1032_Kernel := hPre_is_1032_Kernel)
    ∧ quiescent_KernelIdeal_pre_is_1203_Kernel (hKernelIdeal := hKernelIdeal) (hPre_is_1203_Kernel := hPre_is_1203_Kernel)
    ∧ quiescent_KernelIdeal_pre_is_1230_Kernel (hKernelIdeal := hKernelIdeal) (hPre_is_1230_Kernel := hPre_is_1230_Kernel)
    ∧ quiescent_KernelIdeal_pre_is_1302_Kernel (hKernelIdeal := hKernelIdeal) (hPre_is_1302_Kernel := hPre_is_1302_Kernel)
    ∧ quiescent_KernelIdeal_pre_is_1320_Kernel (hKernelIdeal := hKernelIdeal) (hPre_is_1320_Kernel := hPre_is_1320_Kernel)
    ∧ quiescent_KernelIdeal_pre_is_2013_Kernel (hKernelIdeal := hKernelIdeal) (hPre_is_2013_Kernel := hPre_is_2013_Kernel)
    ∧ quiescent_KernelIdeal_pre_is_2031_Kernel (hKernelIdeal := hKernelIdeal) (hPre_is_2031_Kernel := hPre_is_2031_Kernel)
    ∧ quiescent_KernelIdeal_pre_is_2103_Kernel (hKernelIdeal := hKernelIdeal) (hPre_is_2103_Kernel := hPre_is_2103_Kernel)
    ∧ quiescent_KernelIdeal_pre_is_2130_Kernel (hKernelIdeal := hKernelIdeal) (hPre_is_2130_Kernel := hPre_is_2130_Kernel)
    ∧ quiescent_KernelIdeal_pre_is_2301_Kernel (hKernelIdeal := hKernelIdeal) (hPre_is_2301_Kernel := hPre_is_2301_Kernel)
    ∧ quiescent_KernelIdeal_pre_is_2310_Kernel (hKernelIdeal := hKernelIdeal) (hPre_is_2310_Kernel := hPre_is_2310_Kernel)
    ∧ quiescent_KernelIdeal_pre_is_3012_Kernel (hKernelIdeal := hKernelIdeal) (hPre_is_3012_Kernel := hPre_is_3012_Kernel)
    ∧ quiescent_KernelIdeal_pre_is_3021_Kernel (hKernelIdeal := hKernelIdeal) (hPre_is_3021_Kernel := hPre_is_3021_Kernel)
    ∧ quiescent_KernelIdeal_pre_is_3102_Kernel (hKernelIdeal := hKernelIdeal) (hPre_is_3102_Kernel := hPre_is_3102_Kernel)
    ∧ quiescent_KernelIdeal_pre_is_3120_Kernel (hKernelIdeal := hKernelIdeal) (hPre_is_3120_Kernel := hPre_is_3120_Kernel)
    ∧ quiescent_KernelIdeal_pre_is_3201_Kernel (hKernelIdeal := hKernelIdeal) (hPre_is_3201_Kernel := hPre_is_3201_Kernel)
    ∧ quiescent_KernelIdeal_pre_is_3210_Kernel (hKernelIdeal := hKernelIdeal) (hPre_is_3210_Kernel := hPre_is_3210_Kernel)
    ∧ quiescent_ReferenceIdeal (hReferenceIdeal := hReferenceIdeal)
    ∧ quiescent_ReferenceIdeal_pre_is_0123_ReferenceIdeal (hReferenceIdeal := hReferenceIdeal) (hPre_is_0123_ReferenceIdeal := hPre_is_0123_ReferenceIdeal)
    ∧ quiescent_ReferenceIdeal_pre_is_0132_ReferenceIdeal (hReferenceIdeal := hReferenceIdeal) (hPre_is_0132_ReferenceIdeal := hPre_is_0132_ReferenceIdeal)
    ∧ quiescent_ReferenceIdeal_pre_is_0213_ReferenceIdeal (hReferenceIdeal := hReferenceIdeal) (hPre_is_0213_ReferenceIdeal := hPre_is_0213_ReferenceIdeal)
    ∧ quiescent_ReferenceIdeal_pre_is_0231_ReferenceIdeal (hReferenceIdeal := hReferenceIdeal) (hPre_is_0231_ReferenceIdeal := hPre_is_0231_ReferenceIdeal)
    ∧ quiescent_ReferenceIdeal_pre_is_0312_ReferenceIdeal (hReferenceIdeal := hReferenceIdeal) (hPre_is_0312_ReferenceIdeal := hPre_is_0312_ReferenceIdeal)
    ∧ quiescent_ReferenceIdeal_pre_is_0321_ReferenceIdeal (hReferenceIdeal := hReferenceIdeal) (hPre_is_0321_ReferenceIdeal := hPre_is_0321_ReferenceIdeal)
    ∧ quiescent_ReferenceIdeal_pre_is_1023_ReferenceIdeal (hReferenceIdeal := hReferenceIdeal) (hPre_is_1023_ReferenceIdeal := hPre_is_1023_ReferenceIdeal)
    ∧ quiescent_ReferenceIdeal_pre_is_1032_ReferenceIdeal (hReferenceIdeal := hReferenceIdeal) (hPre_is_1032_ReferenceIdeal := hPre_is_1032_ReferenceIdeal)
    ∧ quiescent_ReferenceIdeal_pre_is_1203_ReferenceIdeal (hReferenceIdeal := hReferenceIdeal) (hPre_is_1203_ReferenceIdeal := hPre_is_1203_ReferenceIdeal)
    ∧ quiescent_ReferenceIdeal_pre_is_1230_ReferenceIdeal (hReferenceIdeal := hReferenceIdeal) (hPre_is_1230_ReferenceIdeal := hPre_is_1230_ReferenceIdeal)
    ∧ quiescent_ReferenceIdeal_pre_is_1302_ReferenceIdeal (hReferenceIdeal := hReferenceIdeal) (hPre_is_1302_ReferenceIdeal := hPre_is_1302_ReferenceIdeal)
    ∧ quiescent_ReferenceIdeal_pre_is_1320_ReferenceIdeal (hReferenceIdeal := hReferenceIdeal) (hPre_is_1320_ReferenceIdeal := hPre_is_1320_ReferenceIdeal)
    ∧ quiescent_ReferenceIdeal_pre_is_2013_ReferenceIdeal (hReferenceIdeal := hReferenceIdeal) (hPre_is_2013_ReferenceIdeal := hPre_is_2013_ReferenceIdeal)
    ∧ quiescent_ReferenceIdeal_pre_is_2031_ReferenceIdeal (hReferenceIdeal := hReferenceIdeal) (hPre_is_2031_ReferenceIdeal := hPre_is_2031_ReferenceIdeal)
    ∧ quiescent_ReferenceIdeal_pre_is_2103_ReferenceIdeal (hReferenceIdeal := hReferenceIdeal) (hPre_is_2103_ReferenceIdeal := hPre_is_2103_ReferenceIdeal)
    ∧ quiescent_ReferenceIdeal_pre_is_2130_ReferenceIdeal (hReferenceIdeal := hReferenceIdeal) (hPre_is_2130_ReferenceIdeal := hPre_is_2130_ReferenceIdeal)
    ∧ quiescent_ReferenceIdeal_pre_is_2301_ReferenceIdeal (hReferenceIdeal := hReferenceIdeal) (hPre_is_2301_ReferenceIdeal := hPre_is_2301_ReferenceIdeal)
    ∧ quiescent_ReferenceIdeal_pre_is_2310_ReferenceIdeal (hReferenceIdeal := hReferenceIdeal) (hPre_is_2310_ReferenceIdeal := hPre_is_2310_ReferenceIdeal)
    ∧ quiescent_ReferenceIdeal_pre_is_3012_ReferenceIdeal (hReferenceIdeal := hReferenceIdeal) (hPre_is_3012_ReferenceIdeal := hPre_is_3012_ReferenceIdeal)
    ∧ quiescent_ReferenceIdeal_pre_is_3021_ReferenceIdeal (hReferenceIdeal := hReferenceIdeal) (hPre_is_3021_ReferenceIdeal := hPre_is_3021_ReferenceIdeal)
    ∧ quiescent_ReferenceIdeal_pre_is_3102_ReferenceIdeal (hReferenceIdeal := hReferenceIdeal) (hPre_is_3102_ReferenceIdeal := hPre_is_3102_ReferenceIdeal)
    ∧ quiescent_ReferenceIdeal_pre_is_3120_ReferenceIdeal (hReferenceIdeal := hReferenceIdeal) (hPre_is_3120_ReferenceIdeal := hPre_is_3120_ReferenceIdeal)
    ∧ quiescent_ReferenceIdeal_pre_is_3201_ReferenceIdeal (hReferenceIdeal := hReferenceIdeal) (hPre_is_3201_ReferenceIdeal := hPre_is_3201_ReferenceIdeal)
    ∧ quiescent_ReferenceIdeal_pre_is_3210_ReferenceIdeal (hReferenceIdeal := hReferenceIdeal) (hPre_is_3210_ReferenceIdeal := hPre_is_3210_ReferenceIdeal)
    ∧ quiescent_Reference (hReference := hReference) (hPre_is_0123_ReferenceIdeal := hPre_is_0123_ReferenceIdeal)
    ∧ quiescent_Reference_pre_is_0132_ReferenceIdeal (hReference := hReference) (hPre_is_0132_ReferenceIdeal := hPre_is_0132_ReferenceIdeal)
    ∧ quiescent_Reference_pre_is_0213_ReferenceIdeal (hReference := hReference) (hPre_is_0213_ReferenceIdeal := hPre_is_0213_ReferenceIdeal)
    ∧ quiescent_Reference_pre_is_0231_ReferenceIdeal (hReference := hReference) (hPre_is_0231_ReferenceIdeal := hPre_is_0231_ReferenceIdeal)
    ∧ quiescent_Reference_pre_is_0312_ReferenceIdeal (hReference := hReference) (hPre_is_0312_ReferenceIdeal := hPre_is_0312_ReferenceIdeal)
    ∧ quiescent_Reference_pre_is_0321_ReferenceIdeal (hReference := hReference) (hPre_is_0321_ReferenceIdeal := hPre_is_0321_ReferenceIdeal)
    ∧ quiescent_Reference_pre_is_1023_ReferenceIdeal (hReference := hReference) (hPre_is_1023_ReferenceIdeal := hPre_is_1023_ReferenceIdeal)
    ∧ quiescent_Reference_pre_is_1032_ReferenceIdeal (hReference := hReference) (hPre_is_1032_ReferenceIdeal := hPre_is_1032_ReferenceIdeal)
    ∧ quiescent_Reference_pre_is_1203_ReferenceIdeal (hReference := hReference) (hPre_is_1203_ReferenceIdeal := hPre_is_1203_ReferenceIdeal)
    ∧ quiescent_Reference_pre_is_1230_ReferenceIdeal (hReference := hReference) (hPre_is_1230_ReferenceIdeal := hPre_is_1230_ReferenceIdeal)
    ∧ quiescent_Reference_pre_is_1302_ReferenceIdeal (hReference := hReference) (hPre_is_1302_ReferenceIdeal := hPre_is_1302_ReferenceIdeal)
    ∧ quiescent_Reference_pre_is_1320_ReferenceIdeal (hReference := hReference) (hPre_is_1320_ReferenceIdeal := hPre_is_1320_ReferenceIdeal)
    ∧ quiescent_Reference_pre_is_2013_ReferenceIdeal (hReference := hReference) (hPre_is_2013_ReferenceIdeal := hPre_is_2013_ReferenceIdeal)
    ∧ quiescent_Reference_pre_is_2031_ReferenceIdeal (hReference := hReference) (hPre_is_2031_ReferenceIdeal := hPre_is_2031_ReferenceIdeal)
    ∧ quiescent_Reference_pre_is_2103_ReferenceIdeal (hReference := hReference) (hPre_is_2103_ReferenceIdeal := hPre_is_2103_ReferenceIdeal)
    ∧ quiescent_Reference_pre_is_2130_ReferenceIdeal (hReference := hReference) (hPre_is_2130_ReferenceIdeal := hPre_is_2130_ReferenceIdeal)
    ∧ quiescent_Reference_pre_is_2301_ReferenceIdeal (hReference := hReference) (hPre_is_2301_ReferenceIdeal := hPre_is_2301_ReferenceIdeal)
    ∧ quiescent_Reference_pre_is_2310_ReferenceIdeal (hReference := hReference) (hPre_is_2310_ReferenceIdeal := hPre_is_2310_ReferenceIdeal)
    ∧ quiescent_Reference_pre_is_3012_ReferenceIdeal (hReference := hReference) (hPre_is_3012_ReferenceIdeal := hPre_is_3012_ReferenceIdeal)
    ∧ quiescent_Reference_pre_is_3021_ReferenceIdeal (hReference := hReference) (hPre_is_3021_ReferenceIdeal := hPre_is_3021_ReferenceIdeal)
    ∧ quiescent_Reference_pre_is_3102_ReferenceIdeal (hReference := hReference) (hPre_is_3102_ReferenceIdeal := hPre_is_3102_ReferenceIdeal)
    ∧ quiescent_Reference_pre_is_3120_ReferenceIdeal (hReference := hReference) (hPre_is_3120_ReferenceIdeal := hPre_is_3120_ReferenceIdeal)
    ∧ quiescent_Reference_pre_is_3201_ReferenceIdeal (hReference := hReference) (hPre_is_3201_ReferenceIdeal := hPre_is_3201_ReferenceIdeal)
    ∧ quiescent_Reference_pre_is_3210_ReferenceIdeal (hReference := hReference) (hPre_is_3210_ReferenceIdeal := hPre_is_3210_ReferenceIdeal)
    ∧ preserves_Kernel_KernelIdeal
    ∧ algebraic_KernelIdeal_ReferenceIdeal (hKernelIdeal := hKernelIdeal) (hReferenceIdeal := hReferenceIdeal) (hPre_is_0123_Kernel := hPre_is_0123_Kernel)
    ∧ algebraic_KernelIdeal_ReferenceIdeal_pre_is_0132_Kernel (hKernelIdeal := hKernelIdeal) (hReferenceIdeal := hReferenceIdeal) (hPre_is_0132_Kernel := hPre_is_0132_Kernel)
    ∧ algebraic_KernelIdeal_ReferenceIdeal_pre_is_0213_Kernel (hKernelIdeal := hKernelIdeal) (hReferenceIdeal := hReferenceIdeal) (hPre_is_0213_Kernel := hPre_is_0213_Kernel)
    ∧ algebraic_KernelIdeal_ReferenceIdeal_pre_is_0231_Kernel (hKernelIdeal := hKernelIdeal) (hReferenceIdeal := hReferenceIdeal) (hPre_is_0231_Kernel := hPre_is_0231_Kernel)
    ∧ algebraic_KernelIdeal_ReferenceIdeal_pre_is_0312_Kernel (hKernelIdeal := hKernelIdeal) (hReferenceIdeal := hReferenceIdeal) (hPre_is_0312_Kernel := hPre_is_0312_Kernel)
    ∧ algebraic_KernelIdeal_ReferenceIdeal_pre_is_0321_Kernel (hKernelIdeal := hKernelIdeal) (hReferenceIdeal := hReferenceIdeal) (hPre_is_0321_Kernel := hPre_is_0321_Kernel)
    ∧ algebraic_KernelIdeal_ReferenceIdeal_pre_is_1023_Kernel (hKernelIdeal := hKernelIdeal) (hReferenceIdeal := hReferenceIdeal) (hPre_is_1023_Kernel := hPre_is_1023_Kernel)
    ∧ algebraic_KernelIdeal_ReferenceIdeal_pre_is_1032_Kernel (hKernelIdeal := hKernelIdeal) (hReferenceIdeal := hReferenceIdeal) (hPre_is_1032_Kernel := hPre_is_1032_Kernel)
    ∧ algebraic_KernelIdeal_ReferenceIdeal_pre_is_1203_Kernel (hKernelIdeal := hKernelIdeal) (hReferenceIdeal := hReferenceIdeal) (hPre_is_1203_Kernel := hPre_is_1203_Kernel)
    ∧ algebraic_KernelIdeal_ReferenceIdeal_pre_is_1230_Kernel (hKernelIdeal := hKernelIdeal) (hReferenceIdeal := hReferenceIdeal) (hPre_is_1230_Kernel := hPre_is_1230_Kernel)
    ∧ algebraic_KernelIdeal_ReferenceIdeal_pre_is_1302_Kernel (hKernelIdeal := hKernelIdeal) (hReferenceIdeal := hReferenceIdeal) (hPre_is_1302_Kernel := hPre_is_1302_Kernel)
    ∧ algebraic_KernelIdeal_ReferenceIdeal_pre_is_1320_Kernel (hKernelIdeal := hKernelIdeal) (hReferenceIdeal := hReferenceIdeal) (hPre_is_1320_Kernel := hPre_is_1320_Kernel)
    ∧ algebraic_KernelIdeal_ReferenceIdeal_pre_is_2013_Kernel (hKernelIdeal := hKernelIdeal) (hReferenceIdeal := hReferenceIdeal) (hPre_is_2013_Kernel := hPre_is_2013_Kernel)
    ∧ algebraic_KernelIdeal_ReferenceIdeal_pre_is_2031_Kernel (hKernelIdeal := hKernelIdeal) (hReferenceIdeal := hReferenceIdeal) (hPre_is_2031_Kernel := hPre_is_2031_Kernel)
    ∧ algebraic_KernelIdeal_ReferenceIdeal_pre_is_2103_Kernel (hKernelIdeal := hKernelIdeal) (hReferenceIdeal := hReferenceIdeal) (hPre_is_2103_Kernel := hPre_is_2103_Kernel)
    ∧ algebraic_KernelIdeal_ReferenceIdeal_pre_is_2130_Kernel (hKernelIdeal := hKernelIdeal) (hReferenceIdeal := hReferenceIdeal) (hPre_is_2130_Kernel := hPre_is_2130_Kernel)
    ∧ algebraic_KernelIdeal_ReferenceIdeal_pre_is_2301_Kernel (hKernelIdeal := hKernelIdeal) (hReferenceIdeal := hReferenceIdeal) (hPre_is_2301_Kernel := hPre_is_2301_Kernel)
    ∧ algebraic_KernelIdeal_ReferenceIdeal_pre_is_2310_Kernel (hKernelIdeal := hKernelIdeal) (hReferenceIdeal := hReferenceIdeal) (hPre_is_2310_Kernel := hPre_is_2310_Kernel)
    ∧ algebraic_KernelIdeal_ReferenceIdeal_pre_is_3012_Kernel (hKernelIdeal := hKernelIdeal) (hReferenceIdeal := hReferenceIdeal) (hPre_is_3012_Kernel := hPre_is_3012_Kernel)
    ∧ algebraic_KernelIdeal_ReferenceIdeal_pre_is_3021_Kernel (hKernelIdeal := hKernelIdeal) (hReferenceIdeal := hReferenceIdeal) (hPre_is_3021_Kernel := hPre_is_3021_Kernel)
    ∧ algebraic_KernelIdeal_ReferenceIdeal_pre_is_3102_Kernel (hKernelIdeal := hKernelIdeal) (hReferenceIdeal := hReferenceIdeal) (hPre_is_3102_Kernel := hPre_is_3102_Kernel)
    ∧ algebraic_KernelIdeal_ReferenceIdeal_pre_is_3120_Kernel (hKernelIdeal := hKernelIdeal) (hReferenceIdeal := hReferenceIdeal) (hPre_is_3120_Kernel := hPre_is_3120_Kernel)
    ∧ algebraic_KernelIdeal_ReferenceIdeal_pre_is_3201_Kernel (hKernelIdeal := hKernelIdeal) (hReferenceIdeal := hReferenceIdeal) (hPre_is_3201_Kernel := hPre_is_3201_Kernel)
    ∧ algebraic_KernelIdeal_ReferenceIdeal_pre_is_3210_Kernel (hKernelIdeal := hKernelIdeal) (hReferenceIdeal := hReferenceIdeal) (hPre_is_3210_Kernel := hPre_is_3210_Kernel)
    ∧ bitexact_Kernel_Reference (hKernel := hKernel) (hReference := hReference) (hPre_is_0123_Kernel := hPre_is_0123_Kernel)
    ∧ bitexact_Kernel_Reference_pre_is_0132_Kernel (hKernel := hKernel) (hReference := hReference) (hPre_is_0132_Kernel := hPre_is_0132_Kernel)
    ∧ bitexact_Kernel_Reference_pre_is_0213_Kernel (hKernel := hKernel) (hReference := hReference) (hPre_is_0213_Kernel := hPre_is_0213_Kernel)
    ∧ bitexact_Kernel_Reference_pre_is_0231_Kernel (hKernel := hKernel) (hReference := hReference) (hPre_is_0231_Kernel := hPre_is_0231_Kernel)
    ∧ bitexact_Kernel_Reference_pre_is_0312_Kernel (hKernel := hKernel) (hReference := hReference) (hPre_is_0312_Kernel := hPre_is_0312_Kernel)
    ∧ bitexact_Kernel_Reference_pre_is_0321_Kernel (hKernel := hKernel) (hReference := hReference) (hPre_is_0321_Kernel := hPre_is_0321_Kernel)
    ∧ bitexact_Kernel_Reference_pre_is_1023_Kernel (hKernel := hKernel) (hReference := hReference) (hPre_is_1023_Kernel := hPre_is_1023_Kernel)
    ∧ bitexact_Kernel_Reference_pre_is_1032_Kernel (hKernel := hKernel) (hReference := hReference) (hPre_is_1032_Kernel := hPre_is_1032_Kernel)
    ∧ bitexact_Kernel_Reference_pre_is_1203_Kernel (hKernel := hKernel) (hReference := hReference) (hPre_is_1203_Kernel := hPre_is_1203_Kernel)
    ∧ bitexact_Kernel_Reference_pre_is_1230_Kernel (hKernel := hKernel) (hReference := hReference) (hPre_is_1230_Kernel := hPre_is_1230_Kernel)
    ∧ bitexact_Kernel_Reference_pre_is_1302_Kernel (hKernel := hKernel) (hReference := hReference) (hPre_is_1302_Kernel := hPre_is_1302_Kernel)
    ∧ bitexact_Kernel_Reference_pre_is_1320_Kernel (hKernel := hKernel) (hReference := hReference) (hPre_is_1320_Kernel := hPre_is_1320_Kernel)
    ∧ bitexact_Kernel_Reference_pre_is_2013_Kernel (hKernel := hKernel) (hReference := hReference) (hPre_is_2013_Kernel := hPre_is_2013_Kernel)
    ∧ bitexact_Kernel_Reference_pre_is_2031_Kernel (hKernel := hKernel) (hReference := hReference) (hPre_is_2031_Kernel := hPre_is_2031_Kernel)
    ∧ bitexact_Kernel_Reference_pre_is_2103_Kernel (hKernel := hKernel) (hReference := hReference) (hPre_is_2103_Kernel := hPre_is_2103_Kernel)
    ∧ bitexact_Kernel_Reference_pre_is_2130_Kernel (hKernel := hKernel) (hReference := hReference) (hPre_is_2130_Kernel := hPre_is_2130_Kernel)
    ∧ bitexact_Kernel_Reference_pre_is_2301_Kernel (hKernel := hKernel) (hReference := hReference) (hPre_is_2301_Kernel := hPre_is_2301_Kernel)
    ∧ bitexact_Kernel_Reference_pre_is_2310_Kernel (hKernel := hKernel) (hReference := hReference) (hPre_is_2310_Kernel := hPre_is_2310_Kernel)
    ∧ bitexact_Kernel_Reference_pre_is_3012_Kernel (hKernel := hKernel) (hReference := hReference) (hPre_is_3012_Kernel := hPre_is_3012_Kernel)
    ∧ bitexact_Kernel_Reference_pre_is_3021_Kernel (hKernel := hKernel) (hReference := hReference) (hPre_is_3021_Kernel := hPre_is_3021_Kernel)
    ∧ bitexact_Kernel_Reference_pre_is_3102_Kernel (hKernel := hKernel) (hReference := hReference) (hPre_is_3102_Kernel := hPre_is_3102_Kernel)
    ∧ bitexact_Kernel_Reference_pre_is_3120_Kernel (hKernel := hKernel) (hReference := hReference) (hPre_is_3120_Kernel := hPre_is_3120_Kernel)
    ∧ bitexact_Kernel_Reference_pre_is_3201_Kernel (hKernel := hKernel) (hReference := hReference) (hPre_is_3201_Kernel := hPre_is_3201_Kernel)
    ∧ bitexact_Kernel_Reference_pre_is_3210_Kernel (hKernel := hKernel) (hReference := hReference) (hPre_is_3210_Kernel := hPre_is_3210_Kernel)
-- ==== Pre_is_0123_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0123_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0132_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0132_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0213_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0213_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0231_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0231_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0312_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0312_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0321_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_0321_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1023_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1023_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1032_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1032_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1203_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1203_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1230_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1230_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1302_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1302_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1320_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_1320_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2013_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2013_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2031_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2031_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2103_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2103_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2130_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2130_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2301_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2301_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2310_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_2310_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3012_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3012_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3021_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3021_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3102_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3102_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3120_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3120_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3201_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3201_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3210_Kernel.lean ====
abbrev S1x4096x2048 : Shape := ⟨3, ![1, 4096, 2048]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x4096x2048 .f32) (main_arg1 : IVec S4 32) : IVec S4 1 :=
  let main_c : IVec S4 32 := fun i => lit0 (S4.rowMajor i)
  let main_v0 : IVec S4 1 := cmpi .eq main_arg1 main_c
  main_v0
-- ==== Pre_is_3210_ReferenceIdeal.lean ====
abbrev S4x4096x2048 : Shape := ⟨3, ![4, 4096, 2048]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x4096x2048 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x4096x2048, .f32⟩
  | .hbm, ⟨1, _⟩ => ⟨S4, .i32⟩
  | .hbm, ⟨2, _⟩ => ⟨S1x4096x2048, .f32⟩
  | .local _ .smem, ⟨0, _⟩ => ⟨S4, .i32⟩
  | _, _ => ⟨S1x4096x2048, .f32⟩

abbrev bufScoped : (cs : CoreSpace) → Fin (nBuf (.core cs)) → Bool
  | .smem, ⟨0, _⟩ => true
  | _, _ => false

abbrev semScoped : Fin 2 → Bool
  | ⟨0, _⟩ => true
  | ⟨1, _⟩ => false
  | _ => false

abbrev dmaSemScoped : Fin 3 → Bool
  | ⟨0, _⟩ => true
  | ⟨1, _⟩ => true
  | ⟨2, _⟩ => true
  | _ => false

abbrev sig : RefSig :=
  (ofTc nBuf bufTy 2 3 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 1

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_8 : BitVec 32 := 4#32
  let v26 : BitVec 32 := Scalar.muli v22 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v28 : BitVec 32 := Scalar.muli v8 c1_i32_9
  let v29 : BitVec 32 := Scalar.addi v27 v28
  v29.toNat

def k0_dev2 (d0 : Dev nD) (v10 : BitVec 32) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v30 : BitVec 32 := Scalar.muli v2 c16_i32_11
  let v31 : BitVec 32 := Scalar.addi c0_i32_12 v30
  let c4_i32_13 : BitVec 32 := 4#32
  let v32 : BitVec 32 := Scalar.muli v10 c4_i32_13
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v34 : BitVec 32 := Scalar.muli v8 c1_i32_14
  let v35 : BitVec 32 := Scalar.addi v33 v34
  v35.toNat

def k0_dev3 (d0 : Dev nD) (v10 : BitVec 32) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v36 : BitVec 32 := Scalar.muli v2 c16_i32_16
  let v37 : BitVec 32 := Scalar.addi c0_i32_17 v36
  let c4_i32_18 : BitVec 32 := 4#32
  let v38 : BitVec 32 := Scalar.muli v10 c4_i32_18
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v40 : BitVec 32 := Scalar.muli v8 c1_i32_19
  let v41 : BitVec 32 := Scalar.addi v39 v40
  v41.toNat
def k0_dev4 (d0 : Dev nD) (v11 : BitVec 32) (v14 : BitVec 32) (v17 : BitVec 32) (v20 : BitVec 32) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v48 : BitVec 32 := Scalar.muli v2 c16_i32_26
  let v49 : BitVec 32 := Scalar.addi c0_i32_27 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_28 : BitVec 32 := 4#32
  let v50 : BitVec 32 := Scalar.muli v22 c4_i32_28
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v52 : BitVec 32 := Scalar.muli v8 c1_i32_29
  let v53 : BitVec 32 := Scalar.addi v51 v52
  v53.toNat

def k0_chk1 (d0 : Dev nD) (v11 : BitVec 32) (v14 : BitVec 32) (v17 : BitVec 32) (v20 : BitVec 32) : Prop :=
  ((k0_dev1 d0 v11 v14 v17 v20) < nD) ∧
  ((k0_dev4 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1.1
theorem k0_dev4_lt : ∀ (d0 : Dev nD) (v11 : BitVec 32) (v14 : BitVec 32) (v17 : BitVec 32) (v20 : BitVec 32) (k0_hw1 : k0_chk1 d0 v11 v14 v17 v20), (k0_dev4 d0 v11 v14 v17 v20) < nD := fun d0 v11 v14 v17 v20 k0_hw1 => k0_hw1.2

def k0_dev5 (d0 : Dev nD) (v10 : BitVec 32) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v54 : BitVec 32 := Scalar.muli v2 c16_i32_31
  let v55 : BitVec 32 := Scalar.addi c0_i32_32 v54
  let c4_i32_33 : BitVec 32 := 4#32
  let v56 : BitVec 32 := Scalar.muli v10 c4_i32_33
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v58 : BitVec 32 := Scalar.muli v8 c1_i32_34
  let v59 : BitVec 32 := Scalar.addi v57 v58
  v59.toNat

def k0_chk2 (d0 : Dev nD) (v10 : BitVec 32) : Prop :=
  ((k0_dev2 d0 v10) < nD) ∧
  ((k0_dev3 d0 v10) < nD) ∧
  ((k0_dev5 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2.1
theorem k0_dev5_lt : ∀ (d0 : Dev nD) (v10 : BitVec 32) (k0_hw2 : k0_chk2 d0 v10), (k0_dev5 d0 v10) < nD := fun d0 v10 k0_hw2 => k0_hw2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S4x4096x2048 : Shape := ⟨3, ![4, 4096, 2048]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Places.lean ====
/- Where a device stands on the 2 x 4 x 4 mesh, and the two devices it deals with under a permutation of the rows
   of the second axis: the one its block goes to and the one whose block it receives. Then what the kernel's own
   words compute: the row it looks its target up at, the row its scan of the table finds, and the logical ids it
   addresses. -/
module

public import proofs.«01_k».proof.Proof.Gen.Kernel
public import Mathlib.Logic.Equiv.Basic
public import Mathlib.Tactic.FinCases

@[expose] public section

noncomputable section

namespace Cert.Routing

open Idealize.ShloMosaic Cert.Kernel

/-! ## The mesh -/

/-- The row of device `c`: its coordinate on the axis of size four the data is cut along. -/
def row (c : Dev nD) : Fin 4 := ⟨c.val / 4 % 4, Nat.mod_lt _ (by decide)⟩

/-- The device in row `y` on the same line of the mesh as device `c`: the other two coordinates are `c`'s. -/
def inRow (c : Dev nD) (y : Fin 4) : Dev nD :=
  ⟨c.val / 16 * 16 + y.val * 4 + c.val % 4, by
    have hc : c.val < 32 := c.isLt
    have hy := y.isLt
    show _ < 32
    omega⟩

/-- The device in row `y` is in row `y`. -/
theorem row_inRow (c : Dev nD) (y : Fin 4) : row (inRow c y) = y := by
  apply Fin.ext
  have hy := y.isLt
  show (c.val / 16 * 16 + y.val * 4 + c.val % 4) / 4 % 4 = y.val
  omega

/-- Moving along the line twice is moving to the second row. -/
theorem inRow_inRow (c : Dev nD) (y y' : Fin 4) : inRow (inRow c y) y' = inRow c y' := by
  apply Fin.ext
  have hy := y.isLt
  show (c.val / 16 * 16 + y.val * 4 + c.val % 4) / 16 * 16 + y'.val * 4 + (c.val / 16 * 16 + y.val * 4 + c.val % 4) % 4
    = c.val / 16 * 16 + y'.val * 4 + c.val % 4
  omega

/-- The device of its own row is the device itself. -/
theorem inRow_row (c : Dev nD) : inRow c (row c) = c := by
  apply Fin.ext
  show c.val / 16 * 16 + c.val / 4 % 4 * 4 + c.val % 4 = c.val
  omega

/-! ## Whom a device deals with -/

/-- Sending every device's block along its line as `σ` moves the rows: a permutation of the devices. -/
def route (σ : Equiv.Perm (Fin 4)) : Dev nD ≃ Dev nD where
  toFun c := inRow c (σ (row c))
  invFun c := inRow c (σ.symm (row c))
  left_inv c := by beta_reduce; rw [row_inRow, inRow_inRow, Equiv.symm_apply_apply, inRow_row]
  right_inv c := by beta_reduce; rw [row_inRow, inRow_inRow, Equiv.apply_symm_apply, inRow_row]

/-- The device that `c`'s block goes to. -/
abbrev tgt (σ : Equiv.Perm (Fin 4)) (c : Dev nD) : Dev nD := route σ c
/-- The device that `c` receives its block from. -/
abbrev src (σ : Equiv.Perm (Fin 4)) (c : Dev nD) : Dev nD := (route σ).symm c

/-! ## The kernel's words -/

/-- Row `y` as the table spells it. -/
abbrev word (y : Fin 4) : BitVec 32 := BitVec.ofNat 32 y.val

/-- The table of the permutation `σ`, as four words. -/
def table (σ : Equiv.Perm (Fin 4)) : IVec S4 32 := fun i => word (σ (i 0))

/-- The table's place `k`. -/
def place (k : Fin 4) : S4.Idx := fun a => match a with | ⟨0, _⟩ => k

/-- A device's own row, as the kernel computes it from its logical id. -/
def rowWord (c : Dev nD) : BitVec 32 := Scalar.remsi (Scalar.divsi (Dev.word c) 4#32) 4#32

/-- What the kernel's scan of the four table words ends with: the last position whose word is the device's own row. -/
def found (c : Dev nD) (w0 w1 w2 w3 : BitVec 32) : BitVec 32 :=
  Scalar.select (Scalar.cmpi .eq w3 (rowWord c)) 3#32
    (Scalar.select (Scalar.cmpi .eq w2 (rowWord c)) 2#32
      (Scalar.select (Scalar.cmpi .eq w1 (rowWord c)) 1#32
        (Scalar.select (Scalar.cmpi .eq w0 (rowWord c)) 0#32 0#32)))

/-- The kernel's own-row word is the device's row. -/
theorem rowWord_eq (c : Dev nD) : rowWord c = word (row c) := by revert c; decide +kernel

/-- Comparing two rows' words is comparing the rows. -/
theorem cmp_word (a b : Fin 4) : Scalar.cmpi .eq (word a) (word b) = if a = b then 1#1 else 0#1 := by
  revert a b; decide

/-- Over the words of a permutation's table the scan finds the row that the permutation sends to the device's own. -/
theorem found_eq (σ : Equiv.Perm (Fin 4)) (c : Dev nD) :
    found c (word (σ 0)) (word (σ 1)) (word (σ 2)) (word (σ 3)) = word (σ.symm (row c)) := by
  obtain ⟨j, hj⟩ : ∃ j, row c = σ j := ⟨σ.symm (row c), (σ.apply_symm_apply _).symm⟩
  unfold found
  rw [rowWord_eq, hj, Equiv.symm_apply_apply]
  simp only [cmp_word, σ.injective.eq_iff]
  clear hj
  revert j
  decide

/-- The logical id the kernel computes from a row's word is that of the device in that row on its line: -/
theorem dev2_word (c : Dev nD) (y : Fin 4) : k0_dev2 c (word y) = (inRow c y).val := by
  revert c y; decide +kernel
/-- for the transfer too, -/
theorem dev3_word (c : Dev nD) (y : Fin 4) : k0_dev3 c (word y) = (inRow c y).val := dev2_word c y
/-- for the second signal at the exit, -/
theorem dev5_word (c : Dev nD) (y : Fin 4) : k0_dev5 c (word y) = (inRow c y).val := dev2_word c y
/-- for the first signal, over what the scan found, -/
theorem dev1_scan (c : Dev nD) (w0 w1 w2 w3 : BitVec 32) : k0_dev1 c w0 w1 w2 w3 = k0_dev2 c (found c w0 w1 w2 w3) := rfl
/-- and for the first signal at the exit. -/
theorem dev4_scan (c : Dev nD) (w0 w1 w2 w3 : BitVec 32) : k0_dev4 c w0 w1 w2 w3 = k0_dev2 c (found c w0 w1 w2 w3) := rfl

/-- The device the two first signals address is the one `c` receives from. -/
theorem dev1_src (σ : Equiv.Perm (Fin 4)) (c : Dev nD) :
    k0_dev1 c (word (σ 0)) (word (σ 1)) (word (σ 2)) (word (σ 3)) = (src σ c).val := by
  rw [dev1_scan, found_eq]; exact dev2_word c _
theorem dev4_src (σ : Equiv.Perm (Fin 4)) (c : Dev nD) :
    k0_dev4 c (word (σ 0)) (word (σ 1)) (word (σ 2)) (word (σ 3)) = (src σ c).val := by
  rw [dev4_scan, found_eq]; exact dev2_word c _

end Cert.Routing

end
-- ==== Proof.Protocol.lean ====
/- The agreement between the devices, written down before any of them is run.

   Every device has four counters. `tgt` is the device its block goes to, `src` the one whose block it receives.
   * entry (the runtime's barrier): one unit from `tgt`, with which `tgt` hands over its result array, and one unit
     from `src`, with which nothing is handed over. Waited for before the transfer.
   * sent: the whole transfer's units, from the device's own transfer as its source has been read. It hands the
     source array back.
   * landed: the whole transfer's units, from `src`'s transfer. It hands back the device's own result array, holding
     what `src`'s argument array holds.
   * exit: one unit from each of `tgt` and `src`, nothing handed over. Waited for last.
   They are waited for in the order entry, sent, landed, exit, and each wait is below everything still owed then. -/
module

public import proofs.«01_k».proof.Proof.Places
public import proofs.«01_k».proof.Proof.Gen.Kernel.Launch
public import Idealize.ShloMosaic.Lib.Pipeline.Launch
public import Idealize.ShloMosaic.Lib.Pipeline.Kit
public import Idealize.ShloMosaic.Lib.Tactic

@[expose] public section

noncomputable section

namespace Cert.Routing

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own counters, and the four below with two named duties. -/
abbrev Ghost : Type := UR sig nD τ × URounds (GSem nD τ sig) Bool

local notation "𝕄" => MT nD τ sig Unit (Elt F) ℕ Ghost ℕ

abbrev EP : Emb (UR sig nD τ) (MT nD τ sig Unit (Elt F) ℕ Ghost ℕ) := embL
abbrev ER : Emb (URounds (GSem nD τ sig) Bool) (MT nD τ sig Unit (Elt F) ℕ Ghost ℕ) := embR

/-! ## The counters -/

/-- The semaphores the four counters live on: the runtime's barrier, the kernel's exit semaphore, the two DMA ones. -/
abbrev entryS : Sem sig := (SemArray.scalar (sig.barrier 0 rfl) : Sems sig S_).sem
abbrev exitS : Sem sig := cc0_scratch2.sem
abbrev sentS : DmaSem sig := cc0_scratch0.sem
abbrev landedS : DmaSem sig := cc0_scratch1.sem

abbrev entryC (c : Dev nD) : GSem nD τ sig := ((c : Thread nD τ), .reg entryS)
abbrev exitC (c : Dev nD) : GSem nD τ sig := ((c : Thread nD τ), .reg exitS)
abbrev sentC (c : Dev nD) : GSem nD τ sig := ((c : Thread nD τ), .dma sentS)
abbrev landedC (c : Dev nD) : GSem nD τ sig := ((c : Thread nD τ), .dma landedS)

/-- What a semaphore is to this kernel. -/
inductive Role | entry | exit | sent | landed | other
  deriving DecidableEq

/-- The role of each semaphore of a core. -/
def role (s : SemLoc sig) : Role :=
  if s = .reg entryS then .entry else if s = .reg exitS then .exit
  else if s = .dma sentS then .sent else if s = .dma landedS then .landed else .other

theorem role_entry : role (.reg entryS) = .entry := by decide
theorem role_exit : role (.reg exitS) = .exit := by decide
theorem role_sent : role (.dma sentS) = .sent := by decide
theorem role_landed : role (.dma landedS) = .landed := by decide

/-! ## The arrays -/

/-- The kernel's argument and result arrays as it names them. -/
abbrev xM : Memref sig .tc .hbm S1x4096x2048 .f32 := Memref.whole main_arg0
abbrev oM : Memref sig .tc .hbm S1x4096x2048 .f32 := Memref.whole main_v1

/-- The units one whole transfer pays. -/
abbrev units : ℕ := (oM : Memref sig .tc .hbm S1x4096x2048 .f32).view.dmaCredit
theorem units_pos : 0 < units := View.dmaCredit_pos _ (by decide)

variable (σ : Equiv.Perm (Fin 4)) (m : (ℓ : Loc nD τ sig) → Buf (Elt F) ℓ)

/-- What device `c`'s result array ends with: what the argument array of the device it receives from holds. -/
def received (c : Dev nD) : Buf (Elt F) ((c : Thread nD τ).loc main_v1) := m ((src σ c : Thread nD τ).loc main_arg0)

/-- Device `c` owns its argument array, as launched; -/
def argAt (c : Dev nD) : sProp 𝕄 := ((c : Thread nD τ).loc main_arg0) ↦{fullShare} m ((c : Thread nD τ).loc main_arg0)
/-- its result array at contents `f`. -/
def resAt (c : Dev nD) (f : Buf (Elt F) ((c : Thread nD τ).loc main_v1)) : sProp 𝕄 := ((c : Thread nD τ).loc main_v1) ↦{fullShare} f

instance argAt_storable (c : Dev nD) : BI.Storable (upEmb : UEmb _ 𝕄) (argAt (F := F) m c) := by unfold argAt; infer_instance
instance resAt_storable (c : Dev nD) (f) : BI.Storable (upEmb : UEmb _ 𝕄) (resAt (F := F) c f) := by unfold resAt; infer_instance

/-! ## The schedule -/

/-- The duties of a role: the two handshakes have one from `tgt` (`true`) and one from `src` (`false`), the two ends of
    the transfer one. -/
def dutiesOf : Role → Finset Bool
  | .entry | .exit => Finset.univ
  | .sent | .landed => {false}
  | .other => ∅

/-- The units of a duty. -/
def unitsOf : Role → ℕ
  | .sent | .landed => units
  | _ => 1

/-- What a duty hands to device `c`. -/
def handed (c : Dev nD) : Role → Bool → sProp 𝕄
  | .entry, true => resAt (tgt σ c) (m ((tgt σ c : Thread nD τ).loc main_v1))
  | .sent, _ => argAt m c
  | .landed, _ => resAt c (received σ m c)
  | _, _ => iprop(emp)

/-- One round of each counter. -/
def sched : Rounds.Schedule (GSem nD τ sig) Bool 𝕄 where
  duties g r := if r = 0 ∧ g.1.2 = .tc then dutiesOf (role g.2) else ∅
  unitless _ := False
  amount g _ _ := unitsOf (role g.2)
  payload g _ d := handed σ m g.1.1 (role g.2) d
  amount_pos g _ _ _ := by
    have := units_pos
    show 0 < unitsOf (role g.2)
    cases role g.2 <;> simp only [unitsOf] <;> omega

instance sched_storable (g : GSem nD τ sig) (r : ℕ) (d : Bool) :
    BI.Storable (upEmb : UEmb _ 𝕄) ((sched (F := F) σ m).payload g r d) := by
  show BI.Storable upEmb (handed σ m g.1.1 (role g.2) d)
  cases role g.2 <;> cases d <;> (unfold handed; infer_instance)

/-- In round 0 a core's counter has the duties of its role, -/
theorem duties_at (c : Dev nD) (s : SemLoc sig) : (sched (F := F) σ m).duties ((c : Thread nD τ), s) 0 = dutiesOf (role s) :=
  (if_pos ⟨rfl, rfl⟩ : (if (0 : ℕ) = 0 ∧ (c : Thread nD τ).2 = .tc then dutiesOf (role s) else ∅) = _)
/-- in later rounds none. -/
theorem duties_after (g : GSem nD τ sig) : ∀ r, 1 ≤ r → (sched (F := F) σ m).duties g r = ∅ :=
  fun r hr => if_neg fun h => by omega
/-- Every duty of a counter contributes its role's units, -/
theorem amount_at (c : Dev nD) (s : SemLoc sig) (d : Bool) : (sched (F := F) σ m).amount ((c : Thread nD τ), s) 0 d = unitsOf (role s) := rfl
/-- and hands over what its role and name say. -/
theorem payload_at (c : Dev nD) (s : SemLoc sig) (d : Bool) : (sched (F := F) σ m).payload ((c : Thread nD τ), s) 0 d = handed σ m c (role s) d := rfl

/-- A round's units: two at a handshake, the transfer's at either of its ends. -/
theorem expect_at (c : Dev nD) (s : SemLoc sig) :
    (sched (F := F) σ m).expect ((c : Thread nD τ), s) 0 = (dutiesOf (role s)).card * unitsOf (role s) := by
  unfold Schedule.expect Schedule.amountOf
  rw [duties_at, Finset.sum_congr rfl fun d _ => amount_at σ m c s d, Finset.sum_const, smul_eq_mul]

/-- What the owner of a counter receives for a whole round of it: -/
abbrev gain (c : Dev nD) (s : SemLoc sig) : sProp 𝕄 :=
  bigSep ((sched (F := F) σ m).duties ((c : Thread nD τ), s) 0 \ ∅) (fun d => (sched (F := F) σ m).payload ((c : Thread nD τ), s) 0 d)

theorem gain_at (c : Dev nD) (s : SemLoc sig) : gain (F := F) σ m c s = bigSep (dutiesOf (role s)) (handed σ m c (role s)) := by
  unfold gain; rw [Finset.sdiff_empty, duties_at]; rfl

/-- at the entry the result array of the device its block goes to, -/
theorem gain_entry (c : Dev nD) : gain (F := F) σ m c (.reg entryS) = iprop(emp ∗ resAt (tgt σ c) (m ((tgt σ c : Thread nD τ).loc main_v1))) := by
  rw [gain_at, role_entry, show dutiesOf .entry = Finset.univ from rfl,
    bigSep_univ_eq_bigSepL [false, true] (by decide) (by decide), bigSepL_cons_cons, bigSepL_singleton]
  rfl
/-- at its transfer's sending its argument array, -/
theorem gain_sent (c : Dev nD) : gain (F := F) σ m c (.dma sentS) = argAt m c := by
  rw [gain_at, role_sent, show dutiesOf .sent = {false} from rfl, bigSep_singleton]; rfl
/-- at the landing its result array, filled. -/
theorem gain_landed (c : Dev nD) : gain (F := F) σ m c (.dma landedS) = resAt c (received σ m c) := by
  rw [gain_at, role_landed, show dutiesOf .landed = {false} from rfl, bigSep_singleton]; rfl

/-! ## What each device owes, and the order of the waits -/

/-- What device `c` owes once all but its last signal are sent, and with one more contribution to come each. -/
def owe4 (c : Dev nD) : CellTallies nD τ sig Unit := tallyAt (exitC (tgt σ c)) () 1
def owe3 (c : Dev nD) : CellTallies nD τ sig Unit := owe4 σ c + tallyAt (exitC (src σ c)) () 1
def owe2 (c : Dev nD) : CellTallies nD τ sig Unit := owe3 σ c + tallyAt (landedC (tgt σ c)) () units
def owe1 (c : Dev nD) : CellTallies nD τ sig Unit := owe2 σ c + tallyAt (entryC (tgt σ c)) () 1
def owe0 (c : Dev nD) : CellTallies nD τ sig Unit := owe1 σ c + tallyAt (entryC (src σ c)) () 1

/-- A role's place in the order of waits. -/
def level : Role → ℕ
  | .entry => 1
  | .landed => 2
  | .exit => 3
  | _ => 0

def L (g : GSem nD τ sig) : Finset Unit := if g.1.2 = .tc then {()} else ∅
def lv (g : GSem nD τ sig) (_ : Unit) : ℕ := level (role g.2)

theorem L_off (g : GSem nD τ sig) (h : g.1.2 ≠ .tc) : L g = ∅ := if_neg h
theorem L_on {g : GSem nD τ sig} (h : g.1.2 = .tc) (u : Unit) : u ∈ L g := by
  rw [L, if_pos h]; exact Finset.mem_singleton_self _

/-- All of the debt `O` is to cores' counters above level `l`. -/
def Above (l : ℕ) (O : CellTallies nD τ sig Unit) : Prop := ∀ g u, 0 < O g u → g.1.2 = .tc ∧ l < level (role g.2)

theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0

theorem above_tally {l : ℕ} (c : Dev nD) (s : SemLoc sig) (n : ℕ) (h : l < level (role s)) : Above l (tallyAt ((c : Thread nD τ), s) () n) := fun g u hg => by
  rw [tallyAt_apply] at hg
  by_cases e : g = ((c : Thread nD τ), s) ∧ u = ()
  · rw [e.1]; exact ⟨rfl, h⟩
  · rw [if_neg e] at hg; exact absurd hg (Nat.lt_irrefl 0)

theorem above4 (c : Dev nD) : Above 2 (owe4 σ c) := above_tally _ _ _ (by rw [role_exit]; decide)
theorem above3 (c : Dev nD) : Above 2 (owe3 σ c) := (above4 σ c).add (above_tally _ _ _ (by rw [role_exit]; decide))
theorem Above.below {l l' : ℕ} {O : CellTallies nD τ sig Unit} (hl : l' ≤ l) (h : Above l O) : Above l' O :=
  fun g u hg => ⟨(h g u hg).1, lt_of_le_of_lt hl (h g u hg).2⟩
theorem above2 (c : Dev nD) : Above 1 (owe2 σ c) :=
  ((above3 σ c).below (by decide)).add (above_tally _ _ _ (by rw [role_landed]; decide))
theorem above0 (c : Dev nD) : Above 0 (owe0 σ c) :=
  ((((above2 σ c).below (by decide)).add (above_tally _ _ _ (by rw [role_entry]; decide))).add (above_tally _ _ _ (by rw [role_entry]; decide)))

/-- A core may wait at a semaphore while all it owes is above it. -/
theorem may_wait (c : Dev nD) (s : SemLoc sig) (O : CellTallies nD τ sig Unit) (h : Above (level (role s)) O) :
    (levAts L lv : sProp 𝕄) ⊢ MayWait (c : Thread nD τ) s () O :=
  MayOwe.of_cut (L := L) (lev := lv) (level (role s)) (fun p hp => by rw [Finset.mem_singleton.mp hp]; exact L_on rfl _)
    (fun g u hg => L_on (h g u hg).1 u) (fun p hp => by rw [Finset.mem_singleton.mp hp]; exact le_refl _)
    (fun g u hg => (h g u hg).2)

end Cert.Routing

end
-- ==== Proof.Body.lean ====
/- One device's kernel, from the arrays it is launched with to the arrays it leaves.

   The kernel reads the routing table, so it is taken under the hypothesis that every device's table is the same
   permutation `σ` (`Tables`). The words it then reads are `σ`'s, the devices it names are `src` and `tgt`, and every
   effect is one step of the agreement of Protocol.lean, in the program's order. -/
module

public import proofs.«01_k».proof.Proof.Protocol
public import proofs.«01_k».proof.Proof.Gen.Kernel.Skeleton
public import proofs.«01_k».proof.Proof.Gen.Kernel.Points

@[expose] public section

noncomputable section

namespace Cert.Routing

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (σ : Equiv.Perm (Fin 4)) (m : (ℓ : Loc nD τ sig) → Buf (Elt F) ℓ)

/-! ## The routing table -/

/-- Every device's routing table is `σ`'s. -/
def Tables : Prop := ∀ c : Dev nD, (m ((c : Thread nD τ).loc main_arg1) : IVec S4 32) = table σ

/-- The table as it is staged into the memory the kernel's scalar loads read. -/
def staged (c : Dev nD) : (cc0_stg0_0 : Ref sig .tc).ty.Contents (Elt F) :=
  (win0_0.blk (0 : Fin 1)).view.read (Elt F) (m ((c : Thread nD τ).loc main_arg1))

/-- A one-word load of the staged table at a constant place reads the table's word there. -/
theorem load_at (h : Tables σ m) (c : Dev nD) (k : Fin 4) (off : Fin 1 → Nat) (hoff : off = ![k.val]) (hin) :
    ((Memref.whole cc0_stg0_0).access (Rect.unit (s := S4) off S1.size hin) : View sig .tc _ _ _).read (Elt F) (staged m c)
      (Shape.Idx.first (s := S1) (numel1_S1.symm ▸ Nat.one_pos)) = word (σ k) := by
  subst hoff
  refine Eq.trans ?_ (congrFun (h c) (place k))
  show m ((c : Thread nD τ).loc main_arg1) _ = _
  refine congrArg _ (funext fun a => Fin.ext ?_)
  fin_cases a; fin_cases k <;> rfl

/-- The words are in range, so the check the kernel makes of its own row's word holds. -/
theorem own_check (c : Dev nD) (y : Fin 4) : k0_chk2 c (word y) := by
  have h2 := dev2_word c y
  have h3 := dev3_word c y
  have h5 := dev5_word c y
  unfold k0_chk2
  rw [h2, h3, h5]
  exact ⟨(inRow c y).isLt, (inRow c y).isLt, (inRow c y).isLt⟩

/-- The devices the kernel names: its own row's word leads to `tgt`, -/
theorem dev2_tgt (c : Dev nD) (h) : (⟨k0_dev2 c (word (σ (row c))), h⟩ : Dev nD) = tgt σ c := Fin.ext (dev2_word c _)
theorem dev3_tgt (c : Dev nD) (h) : (⟨k0_dev3 c (word (σ (row c))), h⟩ : Dev nD) = tgt σ c := Fin.ext (dev3_word c _)
theorem dev5_tgt (c : Dev nD) (h) : (⟨k0_dev5 c (word (σ (row c))), h⟩ : Dev nD) = tgt σ c := Fin.ext (dev5_word c _)
/-- and its search of the whole table to `src`. -/
theorem dev1_is_src (c : Dev nD) (h) :
    (⟨k0_dev1 c (word (σ 0)) (word (σ 1)) (word (σ 2)) (word (σ 3)), h⟩ : Dev nD) = src σ c := Fin.ext (dev1_src σ c)
theorem dev4_is_src (c : Dev nD) (h) :
    (⟨k0_dev4 c (word (σ 0)) (word (σ 1)) (word (σ 2)) (word (σ 3)), h⟩ : Dev nD) = src σ c := Fin.ext (dev4_src σ c)

/-! ## What a device holds before and after its kernel -/

/-- The semaphores of the four counters, in the order entry, exit, sent, landed. -/
abbrev ctrSem : Fin 4 → SemLoc sig
  | 0 => .reg entryS | 1 => .reg exitS | 2 => .dma sentS | 3 => .dma landedS
abbrev ctr (ck : Dev nD × Fin 4) : GSem nD τ sig := ((ck.1 : Thread nD τ), ctrSem ck.2)

variable (K : Dev nD × Fin 4 → ℕ)

/-- The invariants of the counters a device touches: its own four, and of both neighbours those it pays. -/
def invs (c : Dev nD) : sProp 𝕄 :=
  iprop(cellInv ER (sched σ m) (K (c, 0)) (entryC c) ∗ cellInv ER (sched σ m) (K (c, 1)) (exitC c)
    ∗ cellInv ER (sched σ m) (K (c, 2)) (sentC c) ∗ cellInv ER (sched σ m) (K (c, 3)) (landedC c)
    ∗ cellInv ER (sched σ m) (K (src σ c, 0)) (entryC (src σ c)) ∗ cellInv ER (sched σ m) (K (tgt σ c, 0)) (entryC (tgt σ c))
    ∗ cellInv ER (sched σ m) (K (src σ c, 1)) (exitC (src σ c)) ∗ cellInv ER (sched σ m) (K (tgt σ c, 1)) (exitC (tgt σ c))
    ∗ cellInv ER (sched σ m) (K (tgt σ c, 3)) (landedC (tgt σ c)))

instance invs_persistent (c : Dev nD) : BI.Persistent (invs (F := F) σ m K c) := by unfold invs; infer_instance

/-- That the counters it pays are in their first round. -/
def marks (c : Dev nD) : sProp 𝕄 :=
  iprop(reached ER (entryC (src σ c)) 0 ∗ reached ER (entryC (tgt σ c)) 0 ∗ reached ER (exitC (src σ c)) 0
    ∗ reached ER (exitC (tgt σ c)) 0 ∗ reached ER (landedC (tgt σ c)) 0 ∗ reached ER (sentC c) 0)

instance marks_persistent (c : Dev nD) : BI.Persistent (marks (F := F) σ c) := by unfold marks; infer_instance

/-- Its places at its own four counters. -/
def places (c : Dev nD) : sProp 𝕄 :=
  iprop(atPos ER (entryC c) 0 ∅ 0 ∗ atPos ER (exitC c) 0 ∅ 0 ∗ atPos ER (sentC c) 0 ∅ 0 ∗ atPos ER (landedC c) 0 ∅ 0)

/-- The duties it pays: to `src` and `tgt` at the entry, to both at the exit, at `tgt`'s landing, at its own sending. -/
def pays (c : Dev nD) : sProp 𝕄 :=
  iprop(dutyTok ER (entryC (src σ c)) 0 true ∗ dutyTok ER (entryC (tgt σ c)) 0 false ∗ dutyTok ER (exitC (src σ c)) 0 true
    ∗ dutyTok ER (exitC (tgt σ c)) 0 false ∗ dutyTok ER (landedC (tgt σ c)) 0 false ∗ dutyTok ER (sentC c) 0 false)

/-- The credit it waits with: two units at either handshake, the transfer's at the landing. -/
def credits (c : Dev nD) : sProp 𝕄 :=
  iprop(cred (tallyAt (entryC c) () 2) ∗ cred (tallyAt (exitC c) () 2) ∗ cred (tallyAt (landedC c) () units))

/-- All of a device's part of the agreement, at some names of the invariants. -/
def ghost (c : Dev nD) : sProp 𝕄 := iprop(∃ K, (invs σ m K c ∗ marks σ c) ∗ places c ∗ pays σ c)

/-- Before the kernel: its part of the agreement, its credit, the order of waits, its two arrays as launched. -/
def before (c : Dev nD) : sProp 𝕄 :=
  iprop((ghost σ m c ∗ credits c ∗ levAts L lv) ∗ argAt m c ∗ resAt c (m ((c : Thread nD τ).loc main_v1)))

/-- After it: its argument array as launched, its result array filled, its four counters closed at zero. -/
def after (c : Dev nD) : sProp 𝕄 :=
  iprop((argAt m c ∗ resAt c (received σ m c)) ∗ semVal (entryC c) 0 ∗ semVal (exitC c) 0 ∗ semVal (sentC c) 0 ∗ semVal (landedC c) 0)

/-- The launch's account of the kernel: the one staged array is the table, which stays as it is. -/
def dats (_ : Fin 1) (c : Dev nD) : Dat τ (Elt F) Unit ℕ Ghost ℕ cfg0 c where
  A w := m ((cfg0.win w).arr.view.loc (c : Thread nD τ))
  after w _ := match w with
    | ⟨0, _⟩ => staged m c
  Φ t := match t with
    | ⟨0, _⟩ => before σ m c
    | ⟨_ + 1, _⟩ => after σ m c
  q _ := fullShare
  owed t := match t with
    | ⟨0, _⟩ => owe0 σ c
    | ⟨_ + 1, _⟩ => 0

abbrev 𝒱₀ : Variants := Variants.none

theorem owns_staged (c : Dev nD) (X : (cc0_stg0_0 : Ref sig .tc).ty.Contents (Elt F)) :
    (owns (Ix := Unit) (Name := ℕ) (U := Ghost) (Lvl := ℕ) (c : Thread nD τ) (Memref.whole cc0_stg0_0) fullShare X : sProp 𝕄)
      = iprop(∃ f : Buf (Elt F) ((c : Thread nD τ).loc cc0_stg0_0), ⌜f = X⌝ ∗ (((c : Thread nD τ).loc cc0_stg0_0) ↦{fullShare} f)) := by
  unfold owns; simp only [Memref.view_whole, View.read_whole, View.set_whole]

/-! ## The steps -/

/-- The transfer: addressed to `n`, which is `tgt`. It takes the argument array and `tgt`'s result array into flight,
    and leaves credit for the sending and one debt less. -/
theorem wp_transfer (c n : Dev nD) (hn : n = tgt σ c) {hsc : (oM : Memref sig (Dev.tc n : Thread nD τ).2.kind .hbm S1x4096x2048 .f32).view.ref.isScScratch = false}
    {hsrc : (xM : Memref sig .tc .hbm S1x4096x2048 .f32).view.WordExact} {hdst : (oM : Memref sig .tc .hbm S1x4096x2048 .f32).view.WordExact}
    {hsem : DmaTarget.Typed .hbm (.dma landedS) (.remote (Dev.tc n : Thread nD τ) (oM : Memref sig .tc .hbm S1x4096x2048 .f32) (.dma sentS) hsc)}
    {α : Type} {Q : α → sProp 𝕄} {k : PUnit → Prog (TpuEff nD τ sig (Elt F) Λ₀ .tc) α} (W : Waits sig Unit) :
    iprop(cellInv ER (sched σ m) (K (c, 2)) (sentC c) ∗ cellInv ER (sched σ m) (K (tgt σ c, 3)) (landedC (tgt σ c))
        ∗ argAt m c ∗ resAt (tgt σ c) (m ((tgt σ c : Thread nD τ).loc main_v1))
        ∗ owes (c : Thread nD τ) (owe2 σ c) W
        ∗ dutyTok ER (sentC c) 0 false ∗ reached ER (sentC c) 0
        ∗ dutyTok ER (landedC (tgt σ c)) 0 false ∗ reached ER (landedC (tgt σ c)) 0)
      ⊢ iprop(((cred (tallyAt (sentC c) () units) ∗ owes (c : Thread nD τ) (owe3 σ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sentS) hsc) (.dma landedS) hsrc hdst hsem) k) Q) := by
  subst hn
  have ha : argAt m c = (xM.view.loc (c : Thread nD τ) ↦[xM.view.set]{fullShare} m ((c : Thread nD τ).loc main_arg0) : sProp 𝕄) := by
    unfold argAt; rw [View.set_whole]
  have hr : ∀ f, resAt (tgt σ c) f = (oM.view.loc (tgt σ c : Thread nD τ) ↦[oM.view.set]{fullShare} f : sProp 𝕄) := fun f => by
    unfold resAt; rw [View.set_whole]
  rw [hr, ha]
  refine BIBase.Entails.trans ?_ (Rounds.wp_send_pointsTo (c' := (Dev.tc (tgt σ c) : Thread nD τ)) (dst := oM) (src := xM) (fs := m ((c : Thread nD τ).loc main_arg0)) (q := fullShare) (O₀ := owe2 σ c) 𝒱₀ ER (sched σ m) (c : Thread nD τ) none (κ₁ := K (c, 2)) (κ₂ := K (tgt σ c, 3))
    (r₁ := 0) (r₂ := 0) (d₁ := false) (d₂ := false) (fd := m ((tgt σ c : Thread nD τ).loc main_v1)) ?_ ?_ () () units ?_ ?_ ?_ (owe3 σ c) ?_ (W := W) ?_ ?_ (Es := Set.univ) (hr := ?_))
  · exact BIBase.Entails.refl
  · rw [duties_at, role_sent]; exact Finset.mem_singleton_self _
  · rw [duties_at, role_landed]; exact Finset.mem_singleton_self _
  · rfl
  · rw [amount_at, role_sent]; rfl
  · rw [amount_at, role_landed]; rfl
  · rfl
  · rw [payload_at, role_sent]; exact Entails.of_eq ha.symm
  · rw [payload_at, role_landed]
    have e : src σ (tgt σ c) = c := (route σ).symm_apply_apply c
    have w : oM.view.write (Elt F) (m ((tgt σ c : Thread nD τ).loc main_v1)) (xM.view.read (Elt F) (m ((c : Thread nD τ).loc main_arg0))) Finset.univ
        = received σ m (tgt σ c) := by
      unfold received; rw [e]
      show (View.whole main_v1).write (Elt F) _ ((View.whole main_arg0).read (Elt F) _) Finset.univ = _
      rw [View.read_whole]
      exact View.write_whole_univ _ _ _
    rw [w]; exact Entails.of_eq (hr _).symm
  · exact Topo.routes_tc _ _

/-- What the body starts from, the launch's own parts included; -/
def bodyPre (c : Dev nD) : sProp 𝕄 :=
  iprop(before σ m c ∗ (dats σ m 0 c).owesAt () t0_0.castSucc
    ∗ (∃ d, ∃ f : Buf (Elt F) ((c : Thread nD τ).loc cc0_stg0_0), ⌜f = (dats σ m 0 c).before (0 : Fin 1) t0_0 d⌝ ∗ (((c : Thread nD τ).loc cc0_stg0_0) ↦{fullShare} f)))

/-- and what it ends with. -/
def bodyPost (c : Dev nD) : sProp 𝕄 :=
  iprop(after σ m c ∗ (dats σ m 0 c).owesAt () t0_0.succ
    ∗ (∃ f : Buf (Elt F) ((c : Thread nD τ).loc cc0_stg0_0), ⌜f = staged m c⌝ ∗ (((c : Thread nD τ).loc cc0_stg0_0) ↦{fullShare} f)))

set_option maxHeartbeats 1600000 in
/-- The kernel of one device, one rule per effect in the program's order. -/
theorem body_runs (htab : Tables σ m) (c : Dev nD) (Kt : PUnit → sProp 𝕄) :
    iprop(bodyPre σ m c ∗ (bodyPost σ m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole main_v1) (Memref.isWhole_whole _) cc0_scratch0 cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, smemLoad, smemLoadElt, Prog.lift, Prog.bind_op, Prog.bind_ret, Prog.pure_eq_ret, Prog.bind_assoc, wp_deviceId]
  unfold bodyPre before ghost invs marks places pays credits
  iintro ⟨⟨⟨⟨⟨%K, ⟨⟨#HI0, #HI1, #HI2, #HI3, #HI0s, #HI0t, #HI1s, #HI1t, #HI3t⟩, #Hr0s, #Hr0t, #Hr1s, #Hr1t, #Hr3t, #Hr2⟩,
    ⟨Ha0, Ha1, Ha2, Ha3⟩, Ht0s, Ht0t, Ht1s, Ht1t, Ht3t, Ht2⟩, ⟨Hc0, Hc1, Hc3⟩, #Hlev⟩, Hx, Hv⟩, Ho, ⟨%d0, %g0, %hg0, Hs⟩⟩, Hk⟩
  have hg : g0 = staged m c := by rw [hg0]; unfold Dat.before; rw [if_pos (fetch0_0 t0_0)]; rfl
  subst hg
  unfold Dat.owesAt Pipeline.owesWithin
  icases Ho with ⟨%W, %hW, HO⟩
  rw [show (dats σ m 0 c).owed t0_0.castSucc = owe0 σ c from rfl]
  -- its own row's word, and the check that it names a device
  iapply (wp_load_rect 𝒱₀ (c : Thread nD τ) none Set.univ (m := Memref.whole cc0_stg0_0) (r := Rect.unit (s := S4) (k0_off1 c) S1.size (k0_off1_inb c)) (Finset.subset_univ _)) $$ Hs; iintro Hs
  rw [load_at σ m htab c (row c) (k0_off1 c) (k0_off1_eq c)]
  simp only [wp_assume_of _ _ _ _ (d := k0_chk2.dec _ _) (own_check c (σ (row c)))]
  -- the whole table, searched for its own row
  iapply (wp_load_rect 𝒱₀ (c : Thread nD τ) none Set.univ (m := Memref.whole cc0_stg0_0) (r := Rect.unit (s := S4) ![0] S1.size inb_S4_S1_0) (Finset.subset_univ _)) $$ Hs; iintro Hs
  rw [load_at σ m htab c 0 ![0] rfl]
  iapply (wp_load_rect 𝒱₀ (c : Thread nD τ) none Set.univ (m := Memref.whole cc0_stg0_0) (r := Rect.unit (s := S4) ![1] S1.size inb_S4_S1_1) (Finset.subset_univ _)) $$ Hs; iintro Hs
  rw [load_at σ m htab c 1 ![1] rfl]
  iapply (wp_load_rect 𝒱₀ (c : Thread nD τ) none Set.univ (m := Memref.whole cc0_stg0_0) (r := Rect.unit (s := S4) ![2] S1.size inb_S4_S1_2) (Finset.subset_univ _)) $$ Hs; iintro Hs
  rw [load_at σ m htab c 2 ![2] rfl]
  iapply (wp_load_rect 𝒱₀ (c : Thread nD τ) none Set.univ (m := Memref.whole cc0_stg0_0) (r := Rect.unit (s := S4) ![3] S1.size inb_S4_S1_3) (Finset.subset_univ _)) $$ Hs; iintro Hs
  rw [load_at σ m htab c 3 ![3] rfl]
  simp only [wp_assume_of _ _ _ _ (d := k0_chk1.dec _ _ _ _ _) (k0_chk1_all c (word (σ 0)) (word (σ 1)) (word (σ 2)) (word (σ 3)))]
  simp only [dev1_is_src, dev2_tgt, dev4_is_src, dev5_tgt]
  -- at `src`'s entry, with its own result array
  iapply (Rounds.wp_signal 𝒱₀ ER (sched σ m) (c : Thread nD τ) none (dst := (src σ c : Thread nD τ)) (κ := K (src σ c, 0))
      (d := true) (by rw [duties_at, role_entry]; exact Finset.mem_univ _) (by rw [amount_at, role_entry]; decide) () (owe1 σ c) rfl)
    $$ [HO Ht0s Hv]
  · isplitr; · iexact HI0s
    isplitl [HO]; · iexact HO
    isplitl [Ht0s]; · iexact Ht0s
    isplitl [Hv]
    · rw [payload_at, role_entry]; unfold handed; rw [show tgt σ (src σ c) = c from (route σ).apply_symm_apply c]; iexact Hv
    iexact Hr0s
  iintro HO
  -- at `tgt`'s entry
  iapply (Rounds.wp_signal 𝒱₀ ER (sched σ m) (c : Thread nD τ) none (dst := (tgt σ c : Thread nD τ)) (κ := K (tgt σ c, 0))
      (d := false) (by rw [duties_at, role_entry]; exact Finset.mem_univ _) (by rw [amount_at, role_entry]; decide) () (owe2 σ c) rfl)
    $$ [HO Ht0t]
  · isplitr; · iexact HI0t
    isplitl [HO]; · iexact HO
    isplitl [Ht0t]; · iexact Ht0t
    isplitr; · rw [payload_at, role_entry]; unfold handed; iempintro
    iexact Hr0t
  iintro HO
  -- its own entry: `tgt`'s result array comes with it
  iapply (Rounds.wp_wait_rest_token 𝒱₀ ER (sched σ m) (c : Thread nD τ) none (κ := K (c, 0))
      (wpE_semWait_eq 𝒱₀ (c : Thread nD τ) none Set.univ) (Set.mem_univ _) () (O := owe2 σ c) (W := W) (R := 0) (m := 0) (T := ∅)
      (by rw [expect_at, role_entry]; decide)) $$ [Hc0 HO Ha0]
  · isplitr; · iexact HI0
    isplitl [Hc0]; · iexact Hc0
    isplitl [HO]; · iexact HO
    isplitr; · iapply (may_wait c _ _ (by rw [role_entry]; exact above2 σ c)); iexact Hlev
    iexact Ha0
  iintro ⟨HO, Ha0, -, Hpay⟩
  ihave Hp := (Entails.of_eq (gain_entry σ m c)) $$ Hpay
  icases Hp with ⟨-, Hn⟩
  -- the transfer
  iapply (wp_transfer σ m K c _ (dev3_tgt σ c _) (insert (SemLoc.reg entryS, ()) W)) $$ [Hx Hn HO Ht2 Ht3t]
  · isplitr; · iexact HI2
    isplitr; · iexact HI3t
    isplitl [Hx]; · iexact Hx
    isplitl [Hn]; · iexact Hn
    isplitl [HO]; · iexact HO
    isplitl [Ht2]; · iexact Ht2
    isplitr; · iexact Hr2
    isplitl [Ht3t]; · iexact Ht3t
    iexact Hr3t
  iintro ⟨Hc2, HO⟩
  -- sent: its argument array is back
  iapply (Rounds.wp_wait_rest_token 𝒱₀ ER (sched σ m) (c : Thread nD τ) none (κ := K (c, 2))
      (wpE_waitDma2_eq 𝒱₀ (c : Thread nD τ) none Set.univ) (Set.mem_univ _) () (O := owe3 σ c) (W := insert (SemLoc.reg entryS, ()) W) (R := 0) (m := 0) (T := ∅)
      (by rw [expect_at, role_sent]; exact (Nat.zero_add _).trans (Nat.one_mul _).symm)) $$ [Hc2 HO Ha2]
  · isplitr; · iexact HI2
    isplitl [Hc2]; · iexact Hc2
    isplitl [HO]; · iexact HO
    isplitr; · iapply (may_wait c _ _ (by rw [role_sent]; exact (above3 σ c).below (by decide))); iexact Hlev
    iexact Ha2
  iintro ⟨HO, Ha2, -, Hpay⟩
  ihave Hx := (Entails.of_eq (gain_sent σ m c)) $$ Hpay
  -- landed: its result array is back, filled
  iapply (Rounds.wp_wait_rest_token 𝒱₀ ER (sched σ m) (c : Thread nD τ) none (κ := K (c, 3))
      (wpE_waitDma2_eq 𝒱₀ (c : Thread nD τ) none Set.univ) (Set.mem_univ _) () (O := owe3 σ c) (W := insert (SemLoc.dma sentS, ()) (insert (SemLoc.reg entryS, ()) W)) (R := 0) (m := 0) (T := ∅)
      (by rw [expect_at, role_landed]; exact (Nat.zero_add _).trans (Nat.one_mul _).symm)) $$ [Hc3 HO Ha3]
  · isplitr; · iexact HI3
    isplitl [Hc3]; · iexact Hc3
    isplitl [HO]; · iexact HO
    isplitr; · iapply (may_wait c _ _ (by rw [role_landed]; exact above3 σ c)); iexact Hlev
    iexact Ha3
  iintro ⟨HO, Ha3, -, Hpay⟩
  ihave Hv := (Entails.of_eq (gain_landed σ m c)) $$ Hpay
  -- the two exits
  iapply (Rounds.wp_signal 𝒱₀ ER (sched σ m) (c : Thread nD τ) none (dst := (src σ c : Thread nD τ)) (κ := K (src σ c, 1))
      (d := true) (by rw [duties_at, role_exit]; exact Finset.mem_univ _) (by rw [amount_at, role_exit]; decide) () (owe4 σ c) rfl)
    $$ [HO Ht1s]
  · isplitr; · iexact HI1s
    isplitl [HO]; · iexact HO
    isplitl [Ht1s]; · iexact Ht1s
    isplitr; · rw [payload_at, role_exit]; unfold handed; iempintro
    iexact Hr1s
  iintro HO
  iapply (Rounds.wp_signal 𝒱₀ ER (sched σ m) (c : Thread nD τ) none (dst := (tgt σ c : Thread nD τ)) (κ := K (tgt σ c, 1))
      (d := false) (by rw [duties_at, role_exit]; exact Finset.mem_univ _) (by rw [amount_at, role_exit]; decide) () 0 (zero_add _).symm)
    $$ [HO Ht1t]
  · isplitr; · iexact HI1t
    isplitl [HO]; · iexact HO
    isplitl [Ht1t]; · iexact Ht1t
    isplitr; · rw [payload_at, role_exit]; unfold handed; iempintro
    iexact Hr1t
  iintro HO
  iapply (Rounds.wp_wait_rest_token 𝒱₀ ER (sched σ m) (c : Thread nD τ) none (κ := K (c, 1))
      (wpE_semWait_eq 𝒱₀ (c : Thread nD τ) none Set.univ) (Set.mem_univ _) () (O := 0) (W := insert (SemLoc.dma landedS, ()) (insert (SemLoc.dma sentS, ()) (insert (SemLoc.reg entryS, ()) W))) (R := 0) (m := 0) (T := ∅)
      (by rw [expect_at, role_exit]; decide)) $$ [Hc1 HO Ha1]
  · isplitr; · iexact HI1
    isplitl [Hc1]; · iexact Hc1
    isplitl [HO]; · iexact HO
    isplitr; · rw [MayWait_zero]; iempintro
    iexact Ha1
  iintro ⟨HO, Ha1, -, Hpay⟩
  -- the four counters close at zero
  imod (Rounds.cell_close ER (sched σ m) (Set.mem_univ (K (c, 0))) (fun h => h) (R := 0 + 1) (duties_after σ m (entryC c))) $$ [Ha0] with Hz0
  · isplitr; · iexact HI0
    iexact Ha0
  imod (Rounds.cell_close ER (sched σ m) (Set.mem_univ (K (c, 1))) (fun h => h) (R := 0 + 1) (duties_after σ m (exitC c))) $$ [Ha1] with Hz1
  · isplitr; · iexact HI1
    iexact Ha1
  imod (Rounds.cell_close ER (sched σ m) (Set.mem_univ (K (c, 2))) (fun h => h) (R := 0 + 1) (duties_after σ m (sentC c))) $$ [Ha2] with Hz2
  · isplitr; · iexact HI2
    iexact Ha2
  imod (Rounds.cell_close ER (sched σ m) (Set.mem_univ (K (c, 3))) (fun h => h) (R := 0 + 1) (duties_after σ m (landedC c))) $$ [Ha3] with Hz3
  · isplitr; · iexact HI3
    iexact Ha3
  rw [wp_ret]; imodintro
  iapply Hk
  unfold bodyPost after Dat.owesAt Pipeline.owesWithin
  rw [show (dats σ m 0 c).owed t0_0.succ = 0 from rfl]
  isplitl [Hx Hv Hz0 Hz1 Hz2 Hz3]
  · isplitl [Hx Hv]
    · isplitl [Hx]; · iexact Hx
      iexact Hv
    isplitl [Hz0]; · iexact Hz0
    isplitl [Hz1]; · iexact Hz1
    isplitl [Hz2] <;> iassumption
  isplitl [HO]
  · iexists (insert (SemLoc.reg exitS, ()) (insert (SemLoc.dma landedS, ()) (insert (SemLoc.dma sentS, ()) (insert (SemLoc.reg entryS, ()) W))))
    isplitr; · ipureintro; exact fun _ _ => Or.inl trivial
    iexact HO
  iexists _; isplitr; · (ipureintro; rfl)
  iexact Hs

/-- What the launch asks of the body, at its one point. -/
theorem body_obligation (htab : Tables σ m) (c : Dev nD) : BodyObligation (dats (F := F) σ m 0 c) (defs₀ (F := F)) 𝒱₀ () Set.univ := fun t => by
  rw [fin_N0 t, bigSep_W0, bigSep_W0]
  simp only [owns_staged]
  show bodyPre σ m c ⊢ wp frame (wpE (defs₀ (F := F)) 𝒱₀ c none) Set.univ
    (cc0_body (Memref.whole main_arg0) (Memref.isWhole_whole _) (Memref.whole cc0_stg0_0) (Memref.isWhole_whole _)
      (Memref.whole main_v1) (Memref.isWhole_whole _) cc0_scratch0 cc0_scratch1 cc0_scratch2) (fun _ => bodyPost σ m c)
  iintro H
  iapply (body_runs σ m htab c fun _ => bodyPost σ m c)
  isplitl [H]; · iexact H
  iintro H; iexact H

end Cert.Routing

end
-- ==== Proof.Launch.lean ====
/- The thirty-two kernels together: the agreement is set up once for all devices, each device runs its body under it,
   and the final memory is read off what the devices hold at the end. -/
module

public import proofs.«01_k».proof.Proof.Body
public import Idealize.ShloMosaic.Lib.Pipeline.CollectiveSegs

@[expose] public section

noncomputable section

namespace Cert.Routing

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (σ : Equiv.Perm (Fin 4)) (m : (ℓ : Loc nD τ sig) → Buf (Elt F) ℓ) (ρ : Dev nD → PrngReg)

/-! ## Setting the agreement up -/

/-- The kernel's own semaphores: exit, sent, landed. -/
abbrev ownSem : Fin 3 → SemLoc sig
  | 0 => .reg exitS | 1 => .dma sentS | 2 => .dma landedS

theorem ownSemFacts : Pipeline.OwnSemFacts cfg0.spec ownSem := by decide

theorem ctrSem_injective : Function.Injective ctrSem := by decide

theorem ctr_injective : Function.Injective (ctr : Dev nD × Fin 4 → GSem nD τ sig) := fun a b h =>
  Prod.ext (congrArg (fun g : GSem nD τ sig => g.1.1) h) (ctrSem_injective (congrArg Prod.snd h))

/-- All devices' counters, -/
def counters : Finset (GSem nD τ sig) := Finset.univ.map ⟨ctr, ctr_injective⟩

/-- and all their duties, each at its counter: which counter, and which of its two names. -/
abbrev dutyAt : Fin 6 → Fin 4 × Bool
  | 0 => (0, true) | 1 => (0, false) | 2 => (1, true) | 3 => (1, false) | 4 => (3, false) | 5 => (2, false)
abbrev duty (cj : Dev nD × Fin 6) : GSem nD τ sig × ℕ × Bool := (ctr (cj.1, (dutyAt cj.2).1), 0, (dutyAt cj.2).2)

theorem dutyAt_injective : Function.Injective dutyAt := by decide

theorem duty_injective : Function.Injective duty := fun a b h => by
  have h1 := ctr_injective (congrArg (fun x : GSem nD τ sig × ℕ × Bool => x.1) h)
  have h2 : (dutyAt a.2).2 = (dutyAt b.2).2 := congrArg (fun x : GSem nD τ sig × ℕ × Bool => x.2.2) h
  have h3 := Prod.ext_iff.mp h1
  exact Prod.ext h3.1 (dutyAt_injective (Prod.ext h3.2 h2))

def duties : Finset (GSem nD τ sig × ℕ × Bool) := Finset.univ.map ⟨duty, duty_injective⟩

/-- The ghost state minted at the launch. -/
def minted : Ghost :=
  (initOf (Pipeline.cells cfgs cellOf_inj) (Pipeline.launchToks cfgs cellOf_inj), initOf counters duties)

/-- A device's own duties, before they go to the devices that pay them. -/
def toks (c : Dev nD) : sProp 𝕄 :=
  iprop(dutyTok ER (entryC c) 0 true ∗ dutyTok ER (entryC c) 0 false ∗ dutyTok ER (exitC c) 0 true
    ∗ dutyTok ER (exitC c) 0 false ∗ dutyTok ER (landedC c) 0 false ∗ dutyTok ER (sentC c) 0 false)

/-- A device's share of what is minted. -/
def share (c : Dev nD) : sProp 𝕄 :=
  iprop((bigSep Finset.univ fun k : Fin 4 => roundState ER (sched σ m) (ctr (c, k)) 0)
    ∗ (bigSep Finset.univ fun k : Fin 4 => iprop(atPos ER (ctr (c, k)) 0 ∅ 0 ∗ reached ER (ctr (c, k)) 0)) ∗ toks c)

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- What is minted is every device's share. -/
theorem mint : BI.own (ER (initOf counters duties)) ⊢ (|==> bigSep Finset.univ (share (F := F) σ m) : sProp 𝕄) := by
  have hc (Φ : GSem nD τ sig → sProp 𝕄) : bigSep counters Φ = bigSep Finset.univ fun c : Dev nD => bigSep Finset.univ fun k : Fin 4 => Φ (ctr (c, k)) := by
    unfold counters; rw [bigSep_map, bigSep_univ_prod]; rfl
  have ht : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [six]; rfl
  iintro H
  imod (Rounds.fund ER (sched σ m) counters duties) $$ H with ⟨Hs, Hr, Ha, Ht⟩
  imodintro
  ihave Hs := (Entails.of_eq (hc fun g => roundState ER (sched σ m) g 0)) $$ Hs
  ihave Ha := (Entails.of_eq (hc fun g => atPos ER g 0 ∅ 0)) $$ Ha
  ihave Hr := (Entails.of_eq (hc fun g => reached ER g 0)) $$ Hr
  ihave Ht := (Entails.of_eq ht) $$ Ht
  unfold share; simp only [bigSep_sep']
  isplitl [Hs]; · iexact Hs
  isplitl [Ha Hr]
  · isplitl [Ha] <;> iassumption
  iexact Ht

/-- The exit, sent and landed counters are the kernel's own, the entry counter the runtime's. -/
theorem ownSems0_eq (c : Dev nD) : (Pipeline.ownSems0 (Ix := Unit) (Name := ℕ) (U := Ghost) (Lvl := ℕ) (Val := Elt F) (τ := τ) ownSem c : sProp 𝕄)
    = iprop(semVal (exitC c) 0 ∗ semVal (sentC c) 0 ∗ semVal (landedC c) 0) := by
  rw [Pipeline.ownSems0_eq_of_list c ownSem [0, 1, 2] (by decide) (by decide)]; rfl

theorem unscopedSems0_eq (c : Dev nD) : (unscopedSems0 c : sProp 𝕄) = semVal (entryC c) 0 := by
  unfold unscopedSems0; rw [bigSep_eq_bigSepL_of_eq [SemLoc.reg entryS] (by decide) (by decide)]; rfl

/-- A device's counters, at zero, with its share make its counters' invariants. -/
theorem open_counters (c : Dev nD) :
    iprop(Pipeline.ownSems0 (Ix := Unit) (Name := ℕ) (U := Ghost) (Lvl := ℕ) (Val := Elt F) (τ := τ) ownSem c ∗ unscopedSems0 c ∗ share σ m c)
      ⊢ |={Set.univ}=> iprop((bigSep Finset.univ fun k => iprop(∃ κ : ℕ, cellInv ER (sched σ m) κ (ctr (c, k))))
          ∗ (bigSep Finset.univ fun k => iprop(atPos ER (ctr (c, k)) 0 ∅ 0 ∗ reached ER (ctr (c, k)) 0)) ∗ toks c) := by
  have hinv : iprop((bigSep Finset.univ fun k : Fin 4 => semVal (ctr (c, k)) 0) ∗ bigSep Finset.univ fun k : Fin 4 => roundState ER (sched σ m) (ctr (c, k)) 0)
      ⊢ (|={Set.univ}=> bigSep Finset.univ fun k => iprop(∃ κ : ℕ, cellInv ER (sched σ m) κ (ctr (c, k))) : sProp 𝕄) := by
    rw [← bigSep_sep']
    exact (bigSep_mono fun k _ => (Rounds.body_intro ER (sched σ m) (ctr (c, k))).trans inv_alloc).trans (bigSep_fupd _ _)
  rw [ownSems0_eq, unscopedSems0_eq]
  unfold share
  iintro ⟨⟨H1, H2, H3⟩, H0, Hs, Ha, Ht⟩
  imod hinv $$ [H0 H1 H2 H3 Hs] with Hi
  · isplitr [Hs]
    · rw [four]
      isplitl [H0]; · iexact H0
      isplitl [H1]; · iexact H1
      isplitl [H2] <;> iassumption
    · iexact Hs
  imodintro
  isplitl [Hi]; · iexact Hi
  isplitl [Ha] <;> iassumption

/-- What every device may use of all of them: the invariants, and that every counter is in its first round. -/
def common (K : Dev nD × Fin 4 → ℕ) : sProp 𝕄 :=
  iprop((bigSep Finset.univ fun ck : Dev nD × Fin 4 => cellInv ER (sched σ m) (K ck) (ctr ck))
    ∗ bigSep Finset.univ fun ck : Dev nD × Fin 4 => reached ER (ctr ck) 0)

instance common_persistent (K : Dev nD × Fin 4 → ℕ) : BI.Persistent (common (F := F) σ m K) := by unfold common; infer_instance

theorem inv_of (K : Dev nD × Fin 4 → ℕ) (c : Dev nD) (k : Fin 4) :
    common (F := F) σ m K ⊢ cellInv ER (sched σ m) (K (c, k)) (ctr (c, k)) := by
  have h : (bigSep Finset.univ fun ck : Dev nD × Fin 4 => (cellInv ER (sched σ m) (K ck) (ctr ck) : sProp 𝕄))
      ⊢ cellInv ER (sched σ m) (K (c, k)) (ctr (c, k)) := bigSep_elim (Finset.mem_univ (c, k))
  unfold common; iintro ⟨H, -⟩; iapply h; iexact H

theorem mark_of (K : Dev nD × Fin 4 → ℕ) (c : Dev nD) (k : Fin 4) : common (F := F) σ m K ⊢ reached ER (ctr (c, k)) 0 := by
  have h : (bigSep Finset.univ fun ck : Dev nD × Fin 4 => (reached ER (ctr ck) 0 : sProp 𝕄)) ⊢ reached ER (ctr (c, k)) 0 :=
    bigSep_elim (Finset.mem_univ (c, k))
  unfold common; iintro ⟨-, H⟩; iapply h; iexact H

/-- From them a device takes the invariants it opens and the marks it pays under. -/
theorem ghost_of (K : Dev nD × Fin 4 → ℕ) (c : Dev nD) : iprop(common σ m K ∗ places c ∗ pays σ c) ⊢ ghost (F := F) σ m c := by
  unfold ghost invs marks
  iintro ⟨#H, Hp, Ht⟩
  iexists K
  isplitr
  · isplitr
    · isplitr; · iapply (inv_of σ m K c 0); iexact H
      isplitr; · iapply (inv_of σ m K c 1); iexact H
      isplitr; · iapply (inv_of σ m K c 2); iexact H
      isplitr; · iapply (inv_of σ m K c 3); iexact H
      isplitr; · iapply (inv_of σ m K (src σ c) 0); iexact H
      isplitr; · iapply (inv_of σ m K (tgt σ c) 0); iexact H
      isplitr; · iapply (inv_of σ m K (src σ c) 1); iexact H
      isplitr; · iapply (inv_of σ m K (tgt σ c) 1); iexact H
      iapply (inv_of σ m K (tgt σ c) 3); iexact H
    · isplitr; · iapply (mark_of σ m K (src σ c) 0); iexact H
      isplitr; · iapply (mark_of σ m K (tgt σ c) 0); iexact H
      isplitr; · iapply (mark_of σ m K (src σ c) 1); iexact H
      isplitr; · iapply (mark_of σ m K (tgt σ c) 1); iexact H
      isplitr; · iapply (mark_of σ m K (tgt σ c) 3); iexact H
      iapply (mark_of σ m K c 2); iexact H
  isplitl [Hp] <;> iassumption

/-- The duties go to the devices that pay them: one of each handshake's to `tgt`, the other to `src`, the landing's to
    `src`. -/
theorem deal : (bigSep Finset.univ fun c : Dev nD => (toks c : sProp 𝕄)) ⊢ bigSep Finset.univ fun c : Dev nD => pays σ c := by
  unfold toks pays
  simp only [bigSep_sep']
  rw [bigSep_univ_equiv (route σ).symm (fun c : Dev nD => (dutyTok ER (entryC c) 0 true : sProp 𝕄)),
    bigSep_univ_equiv (route σ) (fun c : Dev nD => (dutyTok ER (entryC c) 0 false : sProp 𝕄)),
    bigSep_univ_equiv (route σ).symm (fun c : Dev nD => (dutyTok ER (exitC c) 0 true : sProp 𝕄)),
    bigSep_univ_equiv (route σ) (fun c : Dev nD => (dutyTok ER (exitC c) 0 false : sProp 𝕄)),
    bigSep_univ_equiv (route σ) (fun c : Dev nD => (dutyTok ER (landedC c) 0 false : sProp 𝕄))]

/-- All devices' invariants, places and duties are all devices' parts of the agreement. -/
theorem regroup :
    (bigSep Finset.univ fun c : Dev nD => iprop((bigSep Finset.univ fun k => iprop(∃ κ : ℕ, cellInv ER (sched σ m) κ (ctr (c, k))))
          ∗ (bigSep Finset.univ fun k => iprop(atPos ER (ctr (c, k)) 0 ∅ 0 ∗ reached ER (ctr (c, k)) 0)) ∗ toks c) : sProp 𝕄)
      ⊢ bigSep Finset.univ (ghost σ m) := by
  simp only [bigSep_sep']
  rw [← bigSep_univ_prod (fun ck : Dev nD × Fin 4 => iprop(∃ κ : ℕ, cellInv ER (sched σ m) κ (ctr ck))),
    ← bigSep_univ_prod (fun ck : Dev nD × Fin 4 => (reached ER (ctr ck) 0 : sProp 𝕄))]
  iintro ⟨Hi, ⟨Ha, #Hr⟩, Ht⟩
  ihave Hi := (BI.bigSep_exists_pi Finset.univ (fun (ck : Dev nD × Fin 4) (κ : ℕ) => (cellInv ER (sched σ m) κ (ctr ck) : sProp 𝕄))) $$ Hi
  icases Hi with ⟨%K, #Hi⟩
  ihave Ht := (deal (F := F) σ) $$ Ht
  iapply (bigSep_with_persistent (R := common σ m K) fun c _ => ghost_of σ m K c)
  isplitr
  · unfold common; isplitl; · iexact Hi
    iexact Hr
  · rw [bigSep_sep']
    isplitl [Ha]
    · iapply (show (bigSep Finset.univ fun c : Dev nD => bigSep Finset.univ fun k : Fin 4 => (atPos ER (ctr (c, k)) 0 ∅ 0 : sProp 𝕄))
        ⊢ bigSep Finset.univ fun c : Dev nD => places c from bigSep_mono fun c _ => Entails.of_eq (four _))
      iexact Ha
    iexact Ht

/-- All devices' counters and shares become all devices' parts of the agreement. -/
theorem agree : (bigSep Finset.univ fun c => iprop(Pipeline.ownSems0 (Ix := Unit) (Name := ℕ) (U := Ghost) (Lvl := ℕ) (Val := Elt F) (τ := τ) ownSem c ∗ unscopedSems0 c ∗ share σ m c) : sProp 𝕄)
    ⊢ |={Set.univ}=> bigSep Finset.univ (ghost σ m) :=
  ((bigSep_mono fun c _ => open_counters σ m c).trans (bigSep_fupd _ _)).trans (BI.fupd_mono (regroup σ m))

/-- The launch deals each device the credit for what the others owe it. -/
theorem dealt (c : Dev nD) : (Pipeline.launchCred (owe0 σ) c : sProp 𝕄) ⊢ credits c := by
  have h (O : Dev nD → CellTallies nD τ sig Unit) (D : Dev nD → CellTallies nD τ sig Unit) (P : Dev nD → CellTallies nD τ sig Unit)
      (e : ∀ d, P d = O d + D d) : (Pipeline.launchCred P c : sProp 𝕄) = iprop(Pipeline.launchCred O c ∗ Pipeline.launchCred D c) := by
    rw [show P = fun d => O d + D d from funext e]; exact Pipeline.launchCred_add O D c
  have hsrc (s : SemLoc sig) (n : ℕ) : (Pipeline.launchCred (fun d => tallyAt ((src σ d : Thread nD τ), s) () n) c : sProp 𝕄) ⊢ cred (tallyAt ((c : Thread nD τ), s) () n) :=
    Pipeline.launchCred_tallyAt s (src σ) (tgt σ) (fun c => (route σ).symm_apply_apply c) (fun d => (route σ).apply_symm_apply d) () n c
  have htgt (s : SemLoc sig) (n : ℕ) : (Pipeline.launchCred (fun d => tallyAt ((tgt σ d : Thread nD τ), s) () n) c : sProp 𝕄) ⊢ cred (tallyAt ((c : Thread nD τ), s) () n) :=
    Pipeline.launchCred_tallyAt s (tgt σ) (src σ) (fun d => (route σ).apply_symm_apply d) (fun c => (route σ).symm_apply_apply c) () n c
  have two (s : SemLoc sig) : (cred (tallyAt ((c : Thread nD τ), s) () 2) : sProp 𝕄) = iprop(cred (tallyAt ((c : Thread nD τ), s) () 1) ∗ cred (tallyAt ((c : Thread nD τ), s) () 1)) := by
    rw [show (2 : ℕ) = 1 + 1 from rfl, ← tallyAt_add]; exact BI.Entails.antisymm (cred_add _ _).1 (cred_add _ _).2
  rw [h (owe1 σ) (fun d => tallyAt (entryC (src σ d)) () 1) (owe0 σ) fun _ => rfl, h (owe2 σ) (fun d => tallyAt (entryC (tgt σ d)) () 1) (owe1 σ) fun _ => rfl,
    h (owe3 σ) (fun d => tallyAt (landedC (tgt σ d)) () units) (owe2 σ) fun _ => rfl, h (owe4 σ) (fun d => tallyAt (exitC (src σ d)) () 1) (owe3 σ) fun _ => rfl]
  unfold credits
  rw [two, two]
  iintro ⟨⟨⟨⟨H4, H3⟩, H2⟩, H1⟩, H0⟩
  isplitl [H0 H1]
  · isplitl [H0]; · iapply (hsrc (.reg entryS) 1); iexact H0
    iapply (htgt (.reg entryS) 1); iexact H1
  isplitl [H3 H4]
  · isplitl [H3]; · iapply (hsrc (.reg exitS) 1); iexact H3
    iapply (htgt (.reg exitS) 1); unfold owe4; iexact H4
  iapply (htgt (.dma landedS) units); iexact H2

/-- The launch's own waits, on the table's staging, are below all a device owes. -/
theorem staging_waits (c : Dev nD) : (levAts L lv : sProp 𝕄) ⊢ Pipeline.cellsWaits cfgs (dats σ m) () 0 c :=
  Pipeline.cellsWaits_intro cfgs (dats σ m) () 0 c fun w s t => by
    have hs : level (role (.dma ((cfg0.win w).sem s))) = 0 := by fin_cases w; fin_cases s; decide
    rcases t with ⟨_ | _, ht⟩
    · exact may_wait c _ _ (by rw [hs]; exact above0 σ c)
    · show _ ⊢ MayWait _ _ _ 0
      rw [MayWait_zero]; iintro -; iempintro

/-! ## The run -/

/-- What the final memory must be on device `c`: argument and table as launched, the result array filled. -/
def Filled (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = received σ m c

set_option maxRecDepth 8000 in
/-- On the whole mesh, for any float values, from any memory whose tables are all `σ`'s and any scheduling: the program
    terminates without a fault, every device's result array is the argument array of the device routed to it, the
    arguments are unchanged, and every semaphore is at zero. -/
theorem run_main (htab : Tables σ m) :
    θ_run defs (onTc (τ := τ) (main (F := F))) ⟨m, fun _ => 0, ρ⟩ (fun r => (∀ c, Filled σ m r.2 c) ∧ r.2.sem = fun _ => 0) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := body_obligation σ m htab) (hne := fun w => by fin_cases w; exact block_pos0 0) (harr := arr_whole0) (hstage := stage_whole0)
    (hshare := fun c w => by unfold Dat.share; split <;> rfl)
    (hdistinct := winFacts0.arr_inj)
    (O₀ := owe0 σ) (howed₀ := fun _ => rfl) (howedN := fun _ => rfl)
    (L := L) (lv := lv) (hL := L_off) (hwaits := staging_waits σ m)
    (G := share σ m) (G' := ghost σ m) (u₀ := minted)
    (hu₀ := by
      unfold minted
      iintro H
      ihave H := (ownU_pair _ _) $$ H
      icases H with ⟨HP, HX⟩
      imod (mint σ m) $$ HX with HG
      imodintro
      isplitl [HP] <;> iassumption)
    (hglob := agree σ m)
    (hA := fun _ _ => rfl) (hpf := fun _ k => k.elim0)
    (X := before σ m) (Y := fun c => iprop((argAt m c ∗ resAt c (received σ m c)) ∗ unscopedSems0 c)) (Z := fun _ => iprop(emp))
    (hX := fun c => by
      rw [Pipeline.unscopedRestP_none, unscopedRest0_eq]
      iintro ⟨⟨Hx, Hv⟩, Hl, Hc, -, HG⟩
      ihave Hc := (dealt (F := F) σ c) $$ Hc
      imodintro
      unfold before argAt resAt
      isplitl
      · isplitl [Hl Hc HG]
        · isplitl [HG]; · iexact HG
          isplitl [Hc] <;> iassumption
        isplitl [Hx] <;> iassumption
      · iempintro)
    (hin := fun c => by
      rw [show (dats σ m 0 c).Φ 0 = before σ m c from rfl]
      iintro ⟨H, -, -⟩; iexact H)
    (hout := fun c => by
      rw [show (dats σ m 0 c).Φ (Fin.last cfg0.N) = after σ m c from rfl, scopedRest0_eq, ownSems0_eq, unscopedSems0_eq]
      unfold after
      iintro ⟨HA, H0, H1, H2, H3⟩
      isplitl [HA H0]
      · isplitl [HA] <;> iassumption
      isplitl [H1 H2 H3]
      · isplitl [H1]; · iexact H1
        isplitl [H2] <;> iassumption
      iempintro)
    (QY := fun c s => (s.mem ((c : Thread nD τ).loc main_arg0) = m ((c : Thread nD τ).loc main_arg0) ∧ s.mem ((c : Thread nD τ).loc main_v1) = received σ m c)
      ∧ ∀ sm : SemLoc sig, sm.isScoped .tc = false → s.sem ((c.tc : Thread nD τ), sm) = 0)
    (hY := fun c s' => by
      unfold argAt resAt
      iintro ⟨⟨⟨Hx, Hv⟩, Hu⟩, -, HSI⟩
      icombine HSI Hx gives %hx
      icombine HSI Hv gives %hv
      imod (Pipeline.unscopedSems0_read (X := unscopedSems0 c) (c := c) fupd_intro s') $$ [Hu HSI] with ⟨%hu, HSI⟩
      · isplitl [Hu] <;> iassumption
      imodintro
      isplitr; · ipureintro; exact ⟨⟨Buf.eq_of_forall_mem_univ hx, Buf.eq_of_forall_mem_univ hv⟩, hu⟩
      iexact HSI)
    (hQ := fun s h hs => ⟨fun c => ⟨(h c).2.2.1.1,
      ((h c).1 0).trans ((dats (F := F) σ m 0 c).arrAt_in (0 : Fin 1) rfl _), (h c).2.2.1.2⟩, sem_eq_zero hs fun c => (h c).2.2.2⟩)

end Cert.Routing

end
-- ==== Proof.Reference.lean ====
/- What the reference computes: it sorts the routing table, keeping track of where each entry came from, and takes
   the rows of its array in that order. Over the table of a permutation the order is the inverse permutation. -/
module

public import proofs.«01_k».proof.Proof.Gen.Reference
public import proofs.«01_k».proof.Proof.Places
public import Idealize.ShloMosaic.Lib.StableHlo.Run
public import Idealize.ShloMosaic.Lib.Quiescent
public import Idealize.ShloMosaic.Lib.ValueIdxCore

@[expose] public section

noncomputable section

namespace Cert.Routing.Whole

open Cert.Reference Cert.Reference.Gen
open Idealize.ShloMosaic Idealize.ShloMosaic.TcCoe Idealize.ShloMosaic.StableHlo Idealize.ShloMosaic.ValueIdx Idealize.SL.Sem

variable {F : FTy → Type} [FloatOps F]

/-! ## The run -/

/-- Where the entries of the sorted table came from. -/
abbrev order (pi : IVec S4 32) : IVec S4 32 := (Host.sort2 S4 0 comparator_i32_i32_d0 pi (iotaInDim S4 32 0)).2

/-- The same with a negative place counted from the end, as an index array reads one. -/
abbrev rows (pi : IVec S4 32) : IVec S4 32 :=
  select (cmpi .slt (order pi) (broadcastInDim S4 ![] bcast_S_S4 (constantI S_ 32 0#32)))
    (addi (order pi) (broadcastInDim S4 ![] bcast_S_S4 (constantI S_ 32 4#32))) (order pi)

/-- The reference's result. -/
abbrev out (x : FVec F S4x4096x2048 .f32) (pi : IVec S4 32) : FVec F S4x4096x2048 .f32 :=
  Host.gather gather_S4x4096x2048_S4x1_S4x4096x2048_12_0_n_n_0_1_140962048 x (broadcastInDim S4x1 ![0] bcast_S4_S4x1_0 (rows pi))

/-- The reference's operations in order. -/
abbrev ops : List (HloOp τ sig (Elt F)) :=
  [ nullary main_call0_v0 (iotaInDim S4 32 0),
    binary main_arg1 main_call0_v0 main_call0_v1_0 (fun x y => (Host.sort2 S4 0 comparator_i32_i32_d0 x y).1),
    binary main_arg1 main_call0_v0 main_v0 (fun x y => (Host.sort2 S4 0 comparator_i32_i32_d0 x y).2),
    nullary main_c (constantI S_ 32 0#32),
    unary main_c main_v1 (broadcastInDim S4 ![] bcast_S_S4),
    binary main_v0 main_v1 main_v2 (cmpi .slt),
    nullary main_c_0 (constantI S_ 32 4#32),
    unary main_c_0 main_v3 (broadcastInDim S4 ![] bcast_S_S4),
    binary main_v0 main_v3 main_v4 addi,
    ternary main_v2 main_v4 main_v0 main_v5 select,
    unary main_v5 main_v6 (broadcastInDim S4x1 ![0] bcast_S4_S4x1_0),
    binary main_arg0 main_v6 main_v7 (fun x i => Host.gather gather_S4x4096x2048_S4x1_S4x4096x2048_12_0_n_n_0_1_140962048 x i) ]

/-- The reference is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Its operations touch arrays of the one device only. -/
theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- The line leaves `out` of the two arguments in the result array. -/
theorem out_eq (V : Valuation τ sig (Elt F)) :
    after ops V (main_v7 : DevRef τ sig) = out (V (main_arg0 : DevRef τ sig)) (V (main_arg1 : DevRef τ sig)) := by
  after_results_simp

/-- Every run of the reference ends, with `out` of the arguments in the result array, the arguments as they were and
    no semaphore raised. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v7).trans (out_eq _), (h c main_arg0).trans (by after_results),
      (h c main_arg1).trans (by after_results)⟩, sem_eq_zero_of_no_sems (by decide) r.2⟩)
    (run_seq scopedRefs_eq scopedSems_eq defs main (fun _ => ops) main_eq (fun _ => ops_sub) m ρ)

end Cert.Routing.Whole

end
-- ==== Proof.Order.lean ====
/- The reference's rows over the table of a permutation: row `y` of the result is row `σ.symm y` of the argument. -/
module

public import proofs.«01_k».proof.Proof.Reference
public import Mathlib.Data.Fintype.Perm

@[expose] public section

noncomputable section

namespace Cert.Routing.Whole

open Cert.Reference Cert.Reference.Gen
open Idealize.ShloMosaic Idealize.ShloMosaic.StableHlo Idealize.ShloMosaic.ValueIdx

/-- Sorting the positions by what a permutation makes of them undoes the permutation. -/
theorem sorted_perm : ∀ (σ : Equiv.Perm (Fin 4)) (y : Fin 4), sortedFrom (fun a b => decide (σ a < σ b)) y = σ.symm y := by
  decide +kernel

/-- The comparison that the reference sorts by, on two rows' words, compares the rows. -/
theorem before_word (a b : Fin 4) (u v : BitVec 32) : (comparator_i32_i32_d0 (word a, u) (word b, v) == 1#1) = decide (a < b) := by
  show (IntOp.cmpi .slt (word a) (word b) == 1#1) = decide (a < b)
  revert a b; decide

/-- Where the entry that ends at place `y` of the sorted table came from: the place where the table says `y`. -/
theorem order_table (σ : Equiv.Perm (Fin 4)) (i : S4.Idx) : order (table σ) i = word (σ.symm (i 0)) := by
  show word (sortedFrom (fun k k' : Fin 4 => comparator_i32_i32_d0 (word (σ k), word k) (word (σ k'), word k') == 1#1) (i 0)) = _
  simp only [before_word]
  exact congrArg word (sorted_perm σ (i 0))

/-- No row's word is negative, so the order is used as it is. -/
theorem rows_table (σ : Equiv.Perm (Fin 4)) (i : S4.Idx) : rows (table σ) i = word (σ.symm (i 0)) := by
  show (if IntOp.cmpi .slt (order (table σ) i) 0#32 = 1#1 then IntOp.addi (order (table σ) i) 4#32 else order (table σ) i) = _
  rw [order_table, if_neg]
  generalize σ.symm (i 0) = y
  revert y; decide

/-- The reference's result over the table of `σ`, one element: row `σ.symm y` of the argument in row `y`. -/
theorem out_table {F : FTy → Type} [FloatOps F] (x : FVec F S4x4096x2048 .f32) (σ : Equiv.Perm (Fin 4)) (y : Fin 4) (r : Fin 4096) (l : Fin 2048) :
    out x (table σ) (ix3 y r l) = x (ix3 (σ.symm y) r l) := by
  unfold out Host.gather
  refine congrArg x (funext fun a => Fin.ext ?_)
  match a with
  | ⟨0, _⟩ =>
    show min ((rows (table σ) _).toInt.toNat) 3 + 0 + 0 = (σ.symm y).val
    rw [rows_table]
    show min ((word (σ.symm y)).toInt.toNat) 3 + 0 + 0 = (σ.symm y).val
    generalize σ.symm y = z
    revert z; decide
  | ⟨1, _⟩ => show 0 + 0 + r.val = r.val; omega
  | ⟨2, _⟩ => show 0 + 0 + l.val = l.val; omega

end Cert.Routing.Whole

end
-- ==== Proof.Equation.lean ====
/- The kernel against the reference: if every device starts with its block of the whole array and a permutation's
   table, it ends with its block of the reference's result. -/
module

public import proofs.«01_k».proof.Proof.Launch
public import proofs.«01_k».proof.Proof.Order
public import Idealize.ShloMosaic.Lib.Layout

@[expose] public section

noncomputable section

namespace Cert.Routing

open Idealize.ShloMosaic Idealize.ShloMosaic.ValueIdx Idealize.SL.Sem
open Cert.Kernel (nD τ)

variable {F : FTy → Type} [FloatOps F]

/-! ## Tables -/

/-- `t` is the table of some permutation. -/
abbrev IsTable (t : IVec Cert.Kernel.S4 32) : Prop := ∃ σ : Equiv.Perm (Fin 4), ∀ k : Fin 4, t (place k) = word (σ k)

/-- Four words that compare equal to `t` at every place are `t`. -/
theorem eq_of_cmpi {pi t : IVec Cert.Kernel.S4 32} (h : cmpi .eq pi t = fun _ => 1#1) : pi = t := funext fun i => by
  have e := congrFun h i
  change BitVec.ofBool (pi i == t i) = 1#1 at e
  by_contra hn
  rw [beq_false_of_ne hn] at e
  exact absurd e (by decide)

/-- If every device's words compare equal to the table of a permutation, they are that permutation's table. -/
theorem tables_of {t : IVec Cert.Kernel.S4 32} (ht : IsTable t) (m : (ℓ : Loc nD τ Cert.Kernel.sig) → Buf (Elt F) ℓ)
    (h : ∀ c : Dev nD, cmpi .eq (m ((c.tc : Thread nD τ).loc Cert.Kernel.main_arg1) : IVec Cert.Kernel.S4 32) t = fun _ => 1#1) :
    ∃ σ, Tables σ m := by
  obtain ⟨σ, hσ⟩ := ht
  refine ⟨σ, fun c => (eq_of_cmpi (h c)).trans (funext fun i => ?_)⟩
  have hi : i = place (i 0) := funext fun a => match a with | ⟨0, _⟩ => rfl
  rw [hi]
  exact hσ (i 0)

/-! ## Blocks -/

/-- Device `c`'s block of an array cut along its first dimension by the rows of the mesh. -/
abbrev blockOf {α : Type} (c : Dev nD) (x : Cert.Reference.S4x4096x2048.Idx → α) : Cert.Kernel.S1x4096x2048.Idx → α :=
  Layout.blockN ⟨3, ![1, 4096, 2048]⟩ ⟨3, ![4, 4096, 2048]⟩ (Layout.meshBlock [2, 4, 4] ![[1], [], []] c) x

/-- It is the array's plane number `row c`. -/
theorem blockOf_apply {α : Type} (c : Dev nD) (x : Cert.Reference.S4x4096x2048.Idx → α) (r : Fin 4096) (l : Fin 2048) :
    blockOf c x (ix3 (0 : Fin 1) r l) = x (ix3 (row c) r l) := by
  refine congrArg x (funext fun a => Fin.ext ?_)
  match a with
  | ⟨0, _⟩ => show (c.val / 4 % 4 * 1 + 0) * 1 + 0 = c.val / 4 % 4; omega
  | ⟨1, _⟩ => show 0 * 4096 + r.val = r.val; omega
  | ⟨2, _⟩ => show 0 * 2048 + l.val = l.val; omega

/-- The block of the reference's result on device `c` is the block of its argument on the device that `c` receives
    from. -/
theorem blockOf_out (σ : Equiv.Perm (Fin 4)) (c : Dev nD) (x : FVec F Cert.Reference.S4x4096x2048 .f32) :
    blockOf c (Whole.out x (table σ)) = blockOf (src σ c) x := funext fun i => by
  obtain ⟨r, l, rfl⟩ : ∃ (r : Fin 4096) (l : Fin 2048), i = ix3 (0 : Fin 1) r l :=
    ⟨i 1, i 2, funext fun a => match a with
      | ⟨0, _⟩ => Subsingleton.elim (α := Fin 1) (i 0) 0
      | ⟨1, _⟩ => rfl
      | ⟨2, _⟩ => rfl⟩
  rw [blockOf_apply, Whole.out_table, blockOf_apply]
  exact congrArg (fun y => x (ix3 y r l)) (row_inRow c _).symm

/-! ## The claims, of the programs as printed -/

section Kernel

open Cert.Kernel

variable (m : (ℓ : Loc nD τ sig) → Buf (Elt F) ℓ) (g : Dev nD → PrngReg)

/-- The kernel runs, leaves its arguments as they were and every semaphore at zero, if the devices hold the table of a
    permutation. -/
theorem frame_kernel {t : IVec S4 32} (ht : IsTable t)
    (h : ∀ c : Dev nD, cmpi .eq (m ((c.tc : Thread nD τ).loc main_arg1) : IVec S4 32) t = fun _ => 1#1) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  obtain ⟨σ, hσ⟩ := tables_of ht m h
  exact (θ_run defs _ _).mono (fun r hr => ⟨fun c => ⟨(hr.1 c).1, (hr.1 c).2.1⟩, hr.2⟩) (run_main σ m g hσ)

end Kernel

/-- The kernel's devices and the reference both run, and what the devices end with is, block for block, what the
    reference ends with, if the devices hold their blocks of the reference's array and all hold its table, the table of a
    permutation. -/
theorem value_kernel {t : IVec Cert.Kernel.S4 32} (ht : IsTable t)
    (m : (ℓ : Loc Cert.Kernel.nD Cert.Kernel.τ Cert.Kernel.sig) → Buf (Elt F) ℓ) (g : Dev Cert.Kernel.nD → PrngReg)
    (m' : (ℓ : Loc Cert.Reference.nD Cert.Reference.τ Cert.Reference.sig) → Buf (Elt F) ℓ) (g' : Dev Cert.Reference.nD → PrngReg)
    (h : ∀ c : Dev Cert.Kernel.nD,
      cmpi .eq (m ((c.tc : Thread Cert.Kernel.nD Cert.Kernel.τ).loc Cert.Kernel.main_arg1) : IVec Cert.Kernel.S4 32) t = fun _ => 1#1)
    (hm : ∀ c : Dev Cert.Kernel.nD,
      m ((c.tc : Thread Cert.Kernel.nD Cert.Kernel.τ).loc Cert.Kernel.main_arg0)
        = blockOf c (m' (((0 : Dev Cert.Reference.nD).tc : Thread Cert.Reference.nD Cert.Reference.τ).loc Cert.Reference.main_arg0))
      ∧ m ((c.tc : Thread Cert.Kernel.nD Cert.Kernel.τ).loc Cert.Kernel.main_arg1)
        = m' (((0 : Dev Cert.Reference.nD).tc : Thread Cert.Reference.nD Cert.Reference.τ).loc Cert.Reference.main_arg1)) :
    ∃ v0 : Buf (Elt F) (((0 : Dev Cert.Reference.nD).tc : Thread Cert.Reference.nD Cert.Reference.τ).loc Cert.Reference.main_v7),
      θ_run (Cert.Kernel.defs (F := F)) (onTc (τ := Cert.Kernel.τ) (Cert.Kernel.main (F := F))) ⟨m, fun _ => 0, g⟩ (fun r => ∀ c : Dev Cert.Kernel.nD,
          r.2.mem ((c.tc : Thread Cert.Kernel.nD Cert.Kernel.τ).loc Cert.Kernel.main_v1) = blockOf c v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := F)) (onTc (τ := Cert.Reference.τ) (Cert.Reference.main (F := F))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0)
            = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1)
            = m' (((0 : Dev Cert.Reference.nD).tc : Thread Cert.Reference.nD Cert.Reference.τ).loc Cert.Reference.main_arg1)) := by
  obtain ⟨σ, hσ⟩ := tables_of ht m h
  have hpi : m' (((0 : Dev Cert.Reference.nD).tc : Thread Cert.Reference.nD Cert.Reference.τ).loc Cert.Reference.main_arg1) = table σ :=
    (hm 0).2.symm.trans (hσ 0)
  refine ⟨Whole.out (m' (((0 : Dev Cert.Reference.nD).tc : Thread Cert.Reference.nD Cert.Reference.τ).loc Cert.Reference.main_arg0)) (table σ),
    (θ_run Cert.Kernel.defs _ _).mono (fun r hr c => ⟨?_, (hr.1 c).1, (hr.1 c).2.1⟩) (run_main σ m g hσ),
    (θ_run Cert.Reference.defs _ _).mono (fun r hr => ⟨?_, (hr.1 0).2⟩) (Whole.run_main m' g')⟩
  · exact ((hr.1 c).2.2.trans (hm (src σ c)).1).trans (blockOf_out σ c _).symm
  · exact (hr.1 0).1.trans (congrArg (Whole.out _) hpi)

end Cert.Routing

end
-- ==== Proof.Claims.lean ====
/- The claims in the form the certificate states them, for any table the devices may hold. -/
module

public import proofs.«01_k».proof.KernelIdeal
public import proofs.«01_k».proof.ReferenceIdeal
public import proofs.«01_k».proof.Proof.Gen.KernelIdeal
public import proofs.«01_k».proof.Proof.Gen.ReferenceIdeal
public import proofs.«01_k».proof.Proof.Equation

@[expose] public section

noncomputable section

namespace Cert.Routing

open Idealize.ShloMosaic Idealize.SL.Sem

/-! ## The programs printed a second time

The kernel over the ideal numbers, and the reference over them, are printed again under other names. They are the same
programs, so what is proved of the first print for any numbers holds of the second. -/

variable {F : FTy → Type} [FloatOps F]

set_option smartUnfolding false in
/-- `frame_kernel` of the second print. -/
theorem frame_kernelIdeal {t : IVec Cert.KernelIdeal.S4 32} (ht : IsTable t)
    (m : (ℓ : Loc Cert.KernelIdeal.nD Cert.KernelIdeal.τ Cert.KernelIdeal.sig) → Buf (Elt F) ℓ) (g : Dev Cert.KernelIdeal.nD → PrngReg)
    (h : ∀ c : Dev Cert.KernelIdeal.nD,
      cmpi .eq (m ((c.tc : Thread Cert.KernelIdeal.nD Cert.KernelIdeal.τ).loc Cert.KernelIdeal.main_arg1) : IVec Cert.KernelIdeal.S4 32) t = fun _ => 1#1) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0) :=
  frame_kernel m g ht h

set_option smartUnfolding false in
/-- `value_kernel` of the second prints. -/
theorem value_kernelIdeal {t : IVec Cert.KernelIdeal.S4 32} (ht : IsTable t)
    (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (h : ∀ c : Dev Cert.KernelIdeal.nD,
      cmpi .eq (m ((c.tc : Thread Cert.KernelIdeal.nD Cert.KernelIdeal.τ).loc Cert.KernelIdeal.main_arg1) : IVec Cert.KernelIdeal.S4 32) t = fun _ => 1#1)
    (hm : ∀ c : Dev Cert.KernelIdeal.nD,
      m ((c.tc : Thread Cert.KernelIdeal.nD Cert.KernelIdeal.τ).loc Cert.KernelIdeal.main_arg0)
        = blockOf c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
        = m' (((0 : Dev Cert.ReferenceIdeal.nD).tc : Thread Cert.ReferenceIdeal.nD Cert.ReferenceIdeal.τ).loc Cert.ReferenceIdeal.main_arg1)) :
    ∃ v0 : Buf (Elt F) (((0 : Dev Cert.ReferenceIdeal.nD).tc : Thread Cert.ReferenceIdeal.nD Cert.ReferenceIdeal.τ).loc Cert.ReferenceIdeal.main_v7),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem ((c.tc : Thread Cert.KernelIdeal.nD Cert.KernelIdeal.τ).loc Cert.KernelIdeal.main_v1) = blockOf c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) :=
  value_kernel ht m g m' g' h hm

/-! ## The reference runs -/

section Reference

open Cert.Reference

/-- The reference runs, leaves its arguments as they were and every semaphore at zero. -/
theorem frame_reference (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r hr => ⟨fun c => (hr.1 c).2, hr.2⟩) (Whole.run_main m g)

end Reference

section ReferenceIdeal

open Cert.ReferenceIdeal

set_option smartUnfolding false in
/-- `frame_reference` of the second print. -/
theorem frame_referenceIdeal (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  frame_reference m g

end ReferenceIdeal

end Cert.Routing

end
-- ==== Proof.lean ====
/- The claims, assembled. -/
module

public import proofs.«01_k».proof.Defs
public import proofs.«01_k».proof.Proof.Claims

@[expose] public section

noncomputable section

namespace Cert.Proof

open Cert.Routing

/-- The certificate: each group of claims, one claim for each of the twenty-four tables, by one lemma. -/
theorem claim : Cert.Claim := by
  refine ⟨Cert.Kernel.Gen.facts, Cert.KernelIdeal.Gen.facts, Cert.ReferenceIdeal.Gen.facts, Cert.Reference.Gen.facts, ?_⟩
  iterate 48 (refine ⟨⟨⟩, ?_⟩)
  -- the kernel runs
  iterate 24 (refine ⟨fun m g h => frame_kernel m g (by decide) h, ?_⟩)
  iterate 24 (refine ⟨fun m g h => frame_kernelIdeal (by decide) m g h, ?_⟩)
  -- the reference runs
  iterate 25 (refine ⟨fun m g _ => frame_referenceIdeal m g, ?_⟩)
  iterate 24 (refine ⟨fun m g _ => frame_reference m g, ?_⟩)
  -- the idealized kernel is the kernel's own program
  refine ⟨trivial, ?_⟩
  -- the kernel's result is the reference's
  iterate 24 (refine ⟨fun m g m' g' h hm => value_kernelIdeal (by decide) m g m' g' h hm, ?_⟩)
  iterate 23 (refine ⟨fun m g m' g' h hm => value_kernel (by decide) m g m' g' h hm, ?_⟩)
  exact fun m g m' g' h hm => value_kernel (by decide) m g m' g' h hm

end Cert.Proof
end
